-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 8192]⟩ ⟨2, ![2048, 32768]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 8192]⟩ ⟨2, ![2048, 32768]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S2048x2048 : Shape := ⟨2, ![2048, 2048]⟩
abbrev S2048x512 : Shape := ⟨2, ![2048, 512]⟩
abbrev S2x512x1024 : Shape := ⟨3, ![2, 512, 1024]⟩
abbrev S2x2 : Shape := ⟨2, ![2, 2]⟩
abbrev S_ : Shape := ⟨0, ![]⟩
abbrev S512x1024 : Shape := ⟨2, ![512, 1024]⟩
abbrev S1x512x1024 : Shape := ⟨3, ![1, 512, 1024]⟩
abbrev S1x1 : Shape := ⟨2, ![1, 1]⟩

abbrev nBuf : Space → Nat
  | .hbm => 3
  | .vmem => 9
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x2048, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x2048, .f32⟩
  | .local _ .vmem, ⟨5, _⟩ => ⟨S2x512x1024, .bf16⟩
  | .local _ .vmem, ⟨6, _⟩ => ⟨S2x512x1024, .bf16⟩
  | .local _ .vmem, ⟨7, _⟩ => ⟨S2x512x1024, .bf16⟩
  | .local _ .vmem, ⟨8, _⟩ => ⟨S2x512x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev barrier0 : Sem sig := 0

abbrev nD : Nat := 4
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v13 : BitVec 1 := Scalar.cmpi .eq arg0 c15_i32
  let v14 : BitVec 32 := Scalar.extui v13
  let c0_i32_6 : BitVec 32 := 0#32
  let v15 : BitVec 1 := Scalar.cmpi .ne v14 c0_i32_6
  v15

def k0_dev1 (d16 : Dev nD) : Nat :=
  let c0_i32_23 : BitVec 32 := 0#32
  let v16 : BitVec 32 := Dev.word d16
  let c1_i32 : BitVec 32 := 1#32
  let v17 : BitVec 32 := Scalar.divsi v16 c1_i32
  let c4_i32 : BitVec 32 := 4#32
  let v18 : BitVec 32 := Scalar.remsi v17 c4_i32
  let c1_i32_7 : BitVec 32 := 1#32
  let v19 : BitVec 32 := Scalar.subi v18 c1_i32_7
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi v19 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c1_i32_22 : BitVec 32 := 1#32
  let v42 : BitVec 32 := Scalar.muli v29 c1_i32_22
  let v43 : BitVec 32 := Scalar.addi c0_i32_23 v42
  v43.toNat
def k0_dev2 (d16 : Dev nD) : Nat :=
  let c0_i32_26 : BitVec 32 := 0#32
  let v16 : BitVec 32 := Dev.word d16
  let c1_i32 : BitVec 32 := 1#32
  let v17 : BitVec 32 := Scalar.divsi v16 c1_i32
  let c4_i32 : BitVec 32 := 4#32
  let v18 : BitVec 32 := Scalar.remsi v17 c4_i32
  let c1_i32_14 : BitVec 32 := 1#32
  let v30 : BitVec 32 := Scalar.addi v18 c1_i32_14
  let c4_i32_15 : BitVec 32 := 4#32
  let c0_i32_16 : BitVec 32 := 0#32
  let v31 : BitVec 1 := Scalar.cmpi .eq c4_i32_15 c0_i32_16
  let c1_i32_17 : BitVec 32 := 1#32
  let v32 : BitVec 32 := Scalar.select v31 c1_i32_17 c4_i32_15
  let v33 : BitVec 32 := Scalar.remsi v30 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_25 : BitVec 32 := 1#32
  let v44 : BitVec 32 := Scalar.muli v40 c1_i32_25
  let v45 : BitVec 32 := Scalar.addi c0_i32_26 v44
  v45.toNat
def k0_off1 (d16 : Dev nD) (c0_i32_27 : BitVec 32) : Fin 2 → Nat :=
  let v16 : BitVec 32 := Dev.word d16
  let c1_i32 : BitVec 32 := 1#32
  let v17 : BitVec 32 := Scalar.divsi v16 c1_i32
  let c4_i32 : BitVec 32 := 4#32
  let v18 : BitVec 32 := Scalar.remsi v17 c4_i32
  let v46 : BitVec 32 := Scalar.subi v18 c0_i32_27
  let c4_i32_28 : BitVec 32 := 4#32
  let c0_i32_29 : BitVec 32 := 0#32
  let v47 : BitVec 1 := Scalar.cmpi .eq c4_i32_28 c0_i32_29
  let c1_i32_30 : BitVec 32 := 1#32
  let v48 : BitVec 32 := Scalar.select v47 c1_i32_30 c4_i32_28
  let v49 : BitVec 32 := Scalar.remsi v46 v48
  let c0_i32_32 : BitVec 32 := 0#32
  let v51 : BitVec 1 := Scalar.cmpi .slt v49 c0_i32_32
  let c0_i32_33 : BitVec 32 := 0#32
  let v52 : BitVec 1 := Scalar.cmpi .slt v48 c0_i32_33
  let v53 : BitVec 1 := Scalar.xori v51 v52
  let c0_i32_31 : BitVec 32 := 0#32
  let v50 : BitVec 1 := Scalar.cmpi .ne v49 c0_i32_31
  let v54 : BitVec 1 := Scalar.andi v53 v50
  let v55 : BitVec 32 := Scalar.addi v49 v48
  let v56 : BitVec 32 := Scalar.select v54 v55 v49
  let c512_i32 : BitVec 32 := 512#32
  let v92 : BitVec 32 := Scalar.muli v56 c512_i32
  let v93 : Index := Scalar.indexCast v92
  let c0_57 : Index := 0#32
  ![v93.toNat, 0]
def k0_off2 (d16 : Dev nD) (c0_i32_42 : BitVec 32) : Fin 2 → Nat :=
  let v16 : BitVec 32 := Dev.word d16
  let c1_i32 : BitVec 32 := 1#32
  let v17 : BitVec 32 := Scalar.divsi v16 c1_i32
  let c4_i32 : BitVec 32 := 4#32
  let v18 : BitVec 32 := Scalar.remsi v17 c4_i32
  let v69 : BitVec 32 := Scalar.addi v18 c0_i32_42
  let c4_i32_43 : BitVec 32 := 4#32
  let c0_i32_44 : BitVec 32 := 0#32
  let v70 : BitVec 1 := Scalar.cmpi .eq c4_i32_43 c0_i32_44
  let c1_i32_45 : BitVec 32 := 1#32
  let v71 : BitVec 32 := Scalar.select v70 c1_i32_45 c4_i32_43
  let v72 : BitVec 32 := Scalar.remsi v69 v71
  let c0_i32_47 : BitVec 32 := 0#32
  let v74 : BitVec 1 := Scalar.cmpi .slt v72 c0_i32_47
  let c0_i32_48 : BitVec 32 := 0#32
  let v75 : BitVec 1 := Scalar.cmpi .slt v71 c0_i32_48
  let v76 : BitVec 1 := Scalar.xori v74 v75
  let c0_i32_46 : BitVec 32 := 0#32
  let v73 : BitVec 1 := Scalar.cmpi .ne v72 c0_i32_46
  let v77 : BitVec 1 := Scalar.andi v76 v73
  let v78 : BitVec 32 := Scalar.addi v72 v71
  let v79 : BitVec 32 := Scalar.select v77 v78 v72
  let c512_i32_61 : BitVec 32 := 512#32
  let v100 : BitVec 32 := Scalar.muli v79 c512_i32_61
  let v101 : Index := Scalar.indexCast v100
  let c1024 : Index := 1024#32
  ![v101.toNat, 1024]
def k0_dev3 (d16 : Dev nD) : Nat :=
  let c0_i32_72 : BitVec 32 := 0#32
  let v16 : BitVec 32 := Dev.word d16
  let c1_i32 : BitVec 32 := 1#32
  let v17 : BitVec 32 := Scalar.divsi v16 c1_i32
  let c4_i32 : BitVec 32 := 4#32
  let v18 : BitVec 32 := Scalar.remsi v17 c4_i32
  let c1_i32_14 : BitVec 32 := 1#32
  let v30 : BitVec 32 := Scalar.addi v18 c1_i32_14
  let c4_i32_15 : BitVec 32 := 4#32
  let c0_i32_16 : BitVec 32 := 0#32
  let v31 : BitVec 1 := Scalar.cmpi .eq c4_i32_15 c0_i32_16
  let c1_i32_17 : BitVec 32 := 1#32
  let v32 : BitVec 32 := Scalar.select v31 c1_i32_17 c4_i32_15
  let v33 : BitVec 32 := Scalar.remsi v30 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_71 : BitVec 32 := 1#32
  let v108 : BitVec 32 := Scalar.muli v40 c1_i32_71
  let v109 : BitVec 32 := Scalar.addi c0_i32_72 v108
  v109.toNat
def k0_dev4 (d16 : Dev nD) : Nat :=
  let c0_i32_84 : BitVec 32 := 0#32
  let v16 : BitVec 32 := Dev.word d16
  let c1_i32 : BitVec 32 := 1#32
  let v17 : BitVec 32 := Scalar.divsi v16 c1_i32
  let c4_i32 : BitVec 32 := 4#32
  let v18 : BitVec 32 := Scalar.remsi v17 c4_i32
  let c1_i32_7 : BitVec 32 := 1#32
  let v19 : BitVec 32 := Scalar.subi v18 c1_i32_7
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi v19 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c1_i32_83 : BitVec 32 := 1#32
  let v118 : BitVec 32 := Scalar.muli v29 c1_i32_83
  let v119 : BitVec 32 := Scalar.addi c0_i32_84 v118
  v119.toNat
def k0_off3 (d16 : Dev nD) (c0_i32_34 : BitVec 32) : Fin 2 → Nat :=
  let v16 : BitVec 32 := Dev.word d16
  let c1_i32 : BitVec 32 := 1#32
  let v17 : BitVec 32 := Scalar.divsi v16 c1_i32
  let c4_i32 : BitVec 32 := 4#32
  let v18 : BitVec 32 := Scalar.remsi v17 c4_i32
  let v57 : BitVec 32 := Scalar.subi v18 c0_i32_34
  let c1_i32_35 : BitVec 32 := 1#32
  let v58 : BitVec 32 := Scalar.subi v57 c1_i32_35
  let c4_i32_36 : BitVec 32 := 4#32
  let c0_i32_37 : BitVec 32 := 0#32
  let v59 : BitVec 1 := Scalar.cmpi .eq c4_i32_36 c0_i32_37
  let c1_i32_38 : BitVec 32 := 1#32
  let v60 : BitVec 32 := Scalar.select v59 c1_i32_38 c4_i32_36
  let v61 : BitVec 32 := Scalar.remsi v58 v60
  let c0_i32_40 : BitVec 32 := 0#32
  let v63 : BitVec 1 := Scalar.cmpi .slt v61 c0_i32_40
  let c0_i32_41 : BitVec 32 := 0#32
  let v64 : BitVec 1 := Scalar.cmpi .slt v60 c0_i32_41
  let v65 : BitVec 1 := Scalar.xori v63 v64
  let c0_i32_39 : BitVec 32 := 0#32
  let v62 : BitVec 1 := Scalar.cmpi .ne v61 c0_i32_39
  let v66 : BitVec 1 := Scalar.andi v65 v62
  let v67 : BitVec 32 := Scalar.addi v61 v60
  let v68 : BitVec 32 := Scalar.select v66 v67 v61
  let c512_i32_135 : BitVec 32 := 512#32
  let v156 : BitVec 32 := Scalar.muli v68 c512_i32_135
  let v157 : Index := Scalar.indexCast v156
  let c0_136 : Index := 0#32
  ![v157.toNat, 0]
def k0_off4 (d16 : Dev nD) (c0_i32_49 : BitVec 32) : Fin 2 → Nat :=
  let v16 : BitVec 32 := Dev.word d16
  let c1_i32 : BitVec 32 := 1#32
  let v17 : BitVec 32 := Scalar.divsi v16 c1_i32
  let c4_i32 : BitVec 32 := 4#32
  let v18 : BitVec 32 := Scalar.remsi v17 c4_i32
  let v80 : BitVec 32 := Scalar.addi v18 c0_i32_49
  let c1_i32_50 : BitVec 32 := 1#32
  let v81 : BitVec 32 := Scalar.addi v80 c1_i32_50
  let c4_i32_51 : BitVec 32 := 4#32
  let c0_i32_52 : BitVec 32 := 0#32
  let v82 : BitVec 1 := Scalar.cmpi .eq c4_i32_51 c0_i32_52
  let c1_i32_53 : BitVec 32 := 1#32
  let v83 : BitVec 32 := Scalar.select v82 c1_i32_53 c4_i32_51
  let v84 : BitVec 32 := Scalar.remsi v81 v83
  let c0_i32_55 : BitVec 32 := 0#32
  let v86 : BitVec 1 := Scalar.cmpi .slt v84 c0_i32_55
  let c0_i32_56 : BitVec 32 := 0#32
  let v87 : BitVec 1 := Scalar.cmpi .slt v83 c0_i32_56
  let v88 : BitVec 1 := Scalar.xori v86 v87
  let c0_i32_54 : BitVec 32 := 0#32
  let v85 : BitVec 1 := Scalar.cmpi .ne v84 c0_i32_54
  let v89 : BitVec 1 := Scalar.andi v88 v85
  let v90 : BitVec 32 := Scalar.addi v84 v83
  let v91 : BitVec 32 := Scalar.select v89 v90 v84
  let c512_i32_141 : BitVec 32 := 512#32
  let v166 : BitVec 32 := Scalar.muli v91 c512_i32_141
  let v167 : Index := Scalar.indexCast v166
  let c1024_142 : Index := 1024#32
  ![v167.toNat, 1024]
def k0_dev5 (d16 : Dev nD) : Nat :=
  let c0_i32_193 : BitVec 32 := 0#32
  let v16 : BitVec 32 := Dev.word d16
  let c1_i32 : BitVec 32 := 1#32
  let v17 : BitVec 32 := Scalar.divsi v16 c1_i32
  let c4_i32 : BitVec 32 := 4#32
  let v18 : BitVec 32 := Scalar.remsi v17 c4_i32
  let c1_i32_14 : BitVec 32 := 1#32
  let v30 : BitVec 32 := Scalar.addi v18 c1_i32_14
  let c4_i32_15 : BitVec 32 := 4#32
  let c0_i32_16 : BitVec 32 := 0#32
  let v31 : BitVec 1 := Scalar.cmpi .eq c4_i32_15 c0_i32_16
  let c1_i32_17 : BitVec 32 := 1#32
  let v32 : BitVec 32 := Scalar.select v31 c1_i32_17 c4_i32_15
  let v33 : BitVec 32 := Scalar.remsi v30 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_192 : BitVec 32 := 1#32
  let v238 : BitVec 32 := Scalar.muli v40 c1_i32_192
  let v239 : BitVec 32 := Scalar.addi c0_i32_193 v238
  v239.toNat
def k0_dev6 (d16 : Dev nD) : Nat :=
  let c0_i32_205 : BitVec 32 := 0#32
  let v16 : BitVec 32 := Dev.word d16
  let c1_i32 : BitVec 32 := 1#32
  let v17 : BitVec 32 := Scalar.divsi v16 c1_i32
  let c4_i32 : BitVec 32 := 4#32
  let v18 : BitVec 32 := Scalar.remsi v17 c4_i32
  let c1_i32_7 : BitVec 32 := 1#32
  let v19 : BitVec 32 := Scalar.subi v18 c1_i32_7
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi v19 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c1_i32_204 : BitVec 32 := 1#32
  let v248 : BitVec 32 := Scalar.muli v29 c1_i32_204
  let v249 : BitVec 32 := Scalar.addi c0_i32_205 v248
  v249.toNat
def k0_dev7 (d16 : Dev nD) : Nat :=
  let c0_i32_315 : BitVec 32 := 0#32
  let v16 : BitVec 32 := Dev.word d16
  let c1_i32 : BitVec 32 := 1#32
  let v17 : BitVec 32 := Scalar.divsi v16 c1_i32
  let c4_i32 : BitVec 32 := 4#32
  let v18 : BitVec 32 := Scalar.remsi v17 c4_i32
  let c1_i32_14 : BitVec 32 := 1#32
  let v30 : BitVec 32 := Scalar.addi v18 c1_i32_14
  let c4_i32_15 : BitVec 32 := 4#32
  let c0_i32_16 : BitVec 32 := 0#32
  let v31 : BitVec 1 := Scalar.cmpi .eq c4_i32_15 c0_i32_16
  let c1_i32_17 : BitVec 32 := 1#32
  let v32 : BitVec 32 := Scalar.select v31 c1_i32_17 c4_i32_15
  let v33 : BitVec 32 := Scalar.remsi v30 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_314 : BitVec 32 := 1#32
  let v368 : BitVec 32 := Scalar.muli v40 c1_i32_314
  let v369 : BitVec 32 := Scalar.addi c0_i32_315 v368
  v369.toNat
def k0_dev8 (d16 : Dev nD) : Nat :=
  let c0_i32_327 : BitVec 32 := 0#32
  let v16 : BitVec 32 := Dev.word d16
  let c1_i32 : BitVec 32 := 1#32
  let v17 : BitVec 32 := Scalar.divsi v16 c1_i32
  let c4_i32 : BitVec 32 := 4#32
  let v18 : BitVec 32 := Scalar.remsi v17 c4_i32
  let c1_i32_7 : BitVec 32 := 1#32
  let v19 : BitVec 32 := Scalar.subi v18 c1_i32_7
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi v19 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c1_i32_326 : BitVec 32 := 1#32
  let v378 : BitVec 32 := Scalar.muli v29 c1_i32_326
  let v379 : BitVec 32 := Scalar.addi c0_i32_327 v378
  v379.toNat
def k0_off5 (d16 : Dev nD) (c0_i32_391 : BitVec 32) : Fin 2 → Nat :=
  let v16 : BitVec 32 := Dev.word d16
  let c1_i32 : BitVec 32 := 1#32
  let v17 : BitVec 32 := Scalar.divsi v16 c1_i32
  let c4_i32 : BitVec 32 := 4#32
  let v18 : BitVec 32 := Scalar.remsi v17 c4_i32
  let c1_i32_390 : BitVec 32 := 1#32
  let v436 : BitVec 32 := Scalar.addi v18 c1_i32_390
  let v437 : BitVec 32 := Scalar.subi v436 c0_i32_391
  let c4_i32_392 : BitVec 32 := 4#32
  let c0_i32_393 : BitVec 32 := 0#32
  let v438 : BitVec 1 := Scalar.cmpi .eq c4_i32_392 c0_i32_393
  let c1_i32_394 : BitVec 32 := 1#32
  let v439 : BitVec 32 := Scalar.select v438 c1_i32_394 c4_i32_392
  let v440 : BitVec 32 := Scalar.remsi v437 v439
  let c0_i32_396 : BitVec 32 := 0#32
  let v442 : BitVec 1 := Scalar.cmpi .slt v440 c0_i32_396
  let c0_i32_397 : BitVec 32 := 0#32
  let v443 : BitVec 1 := Scalar.cmpi .slt v439 c0_i32_397
  let v444 : BitVec 1 := Scalar.xori v442 v443
  let c0_i32_395 : BitVec 32 := 0#32
  let v441 : BitVec 1 := Scalar.cmpi .ne v440 c0_i32_395
  let v445 : BitVec 1 := Scalar.andi v444 v441
  let v446 : BitVec 32 := Scalar.addi v440 v439
  let v447 : BitVec 32 := Scalar.select v445 v446 v440
  let c512_i32_420 : BitVec 32 := 512#32
  let v482 : BitVec 32 := Scalar.muli v447 c512_i32_420
  let v483 : Index := Scalar.indexCast v482
  let c0_421 : Index := 0#32
  ![v483.toNat, 0]
def k0_off6 (d16 : Dev nD) (c0_i32_406 : BitVec 32) : Fin 2 → Nat :=
  let v16 : BitVec 32 := Dev.word d16
  let c1_i32 : BitVec 32 := 1#32
  let v17 : BitVec 32 := Scalar.divsi v16 c1_i32
  let c4_i32 : BitVec 32 := 4#32
  let v18 : BitVec 32 := Scalar.remsi v17 c4_i32
  let c1_i32_405 : BitVec 32 := 1#32
  let v459 : BitVec 32 := Scalar.subi v18 c1_i32_405
  let v460 : BitVec 32 := Scalar.addi v459 c0_i32_406
  let c4_i32_407 : BitVec 32 := 4#32
  let c0_i32_408 : BitVec 32 := 0#32
  let v461 : BitVec 1 := Scalar.cmpi .eq c4_i32_407 c0_i32_408
  let c1_i32_409 : BitVec 32 := 1#32
  let v462 : BitVec 32 := Scalar.select v461 c1_i32_409 c4_i32_407
  let v463 : BitVec 32 := Scalar.remsi v460 v462
  let c0_i32_411 : BitVec 32 := 0#32
  let v465 : BitVec 1 := Scalar.cmpi .slt v463 c0_i32_411
  let c0_i32_412 : BitVec 32 := 0#32
  let v466 : BitVec 1 := Scalar.cmpi .slt v462 c0_i32_412
  let v467 : BitVec 1 := Scalar.xori v465 v466
  let c0_i32_410 : BitVec 32 := 0#32
  let v464 : BitVec 1 := Scalar.cmpi .ne v463 c0_i32_410
  let v468 : BitVec 1 := Scalar.andi v467 v464
  let v469 : BitVec 32 := Scalar.addi v463 v462
  let v470 : BitVec 32 := Scalar.select v468 v469 v463
  let c512_i32_425 : BitVec 32 := 512#32
  let v490 : BitVec 32 := Scalar.muli v470 c512_i32_425
  let v491 : Index := Scalar.indexCast v490
  let c1024_426 : Index := 1024#32
  ![v491.toNat, 1024]
def k0_dev9 (d16 : Dev nD) : Nat :=
  let c0_i32_437 : BitVec 32 := 0#32
  let v16 : BitVec 32 := Dev.word d16
  let c1_i32 : BitVec 32 := 1#32
  let v17 : BitVec 32 := Scalar.divsi v16 c1_i32
  let c4_i32 : BitVec 32 := 4#32
  let v18 : BitVec 32 := Scalar.remsi v17 c4_i32
  let c1_i32_14 : BitVec 32 := 1#32
  let v30 : BitVec 32 := Scalar.addi v18 c1_i32_14
  let c4_i32_15 : BitVec 32 := 4#32
  let c0_i32_16 : BitVec 32 := 0#32
  let v31 : BitVec 1 := Scalar.cmpi .eq c4_i32_15 c0_i32_16
  let c1_i32_17 : BitVec 32 := 1#32
  let v32 : BitVec 32 := Scalar.select v31 c1_i32_17 c4_i32_15
  let v33 : BitVec 32 := Scalar.remsi v30 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_436 : BitVec 32 := 1#32
  let v498 : BitVec 32 := Scalar.muli v40 c1_i32_436
  let v499 : BitVec 32 := Scalar.addi c0_i32_437 v498
  v499.toNat
def k0_dev10 (d16 : Dev nD) : Nat :=
  let c0_i32_449 : BitVec 32 := 0#32
  let v16 : BitVec 32 := Dev.word d16
  let c1_i32 : BitVec 32 := 1#32
  let v17 : BitVec 32 := Scalar.divsi v16 c1_i32
  let c4_i32 : BitVec 32 := 4#32
  let v18 : BitVec 32 := Scalar.remsi v17 c4_i32
  let c1_i32_7 : BitVec 32 := 1#32
  let v19 : BitVec 32 := Scalar.subi v18 c1_i32_7
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi v19 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c1_i32_448 : BitVec 32 := 1#32
  let v508 : BitVec 32 := Scalar.muli v29 c1_i32_448
  let v509 : BitVec 32 := Scalar.addi c0_i32_449 v508
  v509.toNat
def k0_dev11 (d16 : Dev nD) : Nat :=
  let c0_i32_557 : BitVec 32 := 0#32
  let v16 : BitVec 32 := Dev.word d16
  let c1_i32 : BitVec 32 := 1#32
  let v17 : BitVec 32 := Scalar.divsi v16 c1_i32
  let c4_i32 : BitVec 32 := 4#32
  let v18 : BitVec 32 := Scalar.remsi v17 c4_i32
  let c1_i32_14 : BitVec 32 := 1#32
  let v30 : BitVec 32 := Scalar.addi v18 c1_i32_14
  let c4_i32_15 : BitVec 32 := 4#32
  let c0_i32_16 : BitVec 32 := 0#32
  let v31 : BitVec 1 := Scalar.cmpi .eq c4_i32_15 c0_i32_16
  let c1_i32_17 : BitVec 32 := 1#32
  let v32 : BitVec 32 := Scalar.select v31 c1_i32_17 c4_i32_15
  let v33 : BitVec 32 := Scalar.remsi v30 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_556 : BitVec 32 := 1#32
  let v620 : BitVec 32 := Scalar.muli v40 c1_i32_556
  let v621 : BitVec 32 := Scalar.addi c0_i32_557 v620
  v621.toNat
def k0_dev12 (d16 : Dev nD) : Nat :=
  let c0_i32_569 : BitVec 32 := 0#32
  let v16 : BitVec 32 := Dev.word d16
  let c1_i32 : BitVec 32 := 1#32
  let v17 : BitVec 32 := Scalar.divsi v16 c1_i32
  let c4_i32 : BitVec 32 := 4#32
  let v18 : BitVec 32 := Scalar.remsi v17 c4_i32
  let c1_i32_7 : BitVec 32 := 1#32
  let v19 : BitVec 32 := Scalar.subi v18 c1_i32_7
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi v19 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c1_i32_568 : BitVec 32 := 1#32
  let v630 : BitVec 32 := Scalar.muli v29 c1_i32_568
  let v631 : BitVec 32 := Scalar.addi c0_i32_569 v630
  v631.toNat
def k0_dev13 (d16 : Dev nD) : Nat :=
  let c0_i32_677 : BitVec 32 := 0#32
  let v16 : BitVec 32 := Dev.word d16
  let c1_i32 : BitVec 32 := 1#32
  let v17 : BitVec 32 := Scalar.divsi v16 c1_i32
  let c4_i32 : BitVec 32 := 4#32
  let v18 : BitVec 32 := Scalar.remsi v17 c4_i32
  let c1_i32_14 : BitVec 32 := 1#32
  let v30 : BitVec 32 := Scalar.addi v18 c1_i32_14
  let c4_i32_15 : BitVec 32 := 4#32
  let c0_i32_16 : BitVec 32 := 0#32
  let v31 : BitVec 1 := Scalar.cmpi .eq c4_i32_15 c0_i32_16
  let c1_i32_17 : BitVec 32 := 1#32
  let v32 : BitVec 32 := Scalar.select v31 c1_i32_17 c4_i32_15
  let v33 : BitVec 32 := Scalar.remsi v30 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_676 : BitVec 32 := 1#32
  let v742 : BitVec 32 := Scalar.muli v40 c1_i32_676
  let v743 : BitVec 32 := Scalar.addi c0_i32_677 v742
  v743.toNat
def k0_dev14 (d16 : Dev nD) : Nat :=
  let c0_i32_689 : BitVec 32 := 0#32
  let v16 : BitVec 32 := Dev.word d16
  let c1_i32 : BitVec 32 := 1#32
  let v17 : BitVec 32 := Scalar.divsi v16 c1_i32
  let c4_i32 : BitVec 32 := 4#32
  let v18 : BitVec 32 := Scalar.remsi v17 c4_i32
  let c1_i32_7 : BitVec 32 := 1#32
  let v19 : BitVec 32 := Scalar.subi v18 c1_i32_7
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi v19 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c1_i32_688 : BitVec 32 := 1#32
  let v752 : BitVec 32 := Scalar.muli v29 c1_i32_688
  let v753 : BitVec 32 := Scalar.addi c0_i32_689 v752
  v753.toNat
def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_3 : BitVec 32 := 0#32
  let v9 : BitVec 1 := Scalar.cmpi .ne v8 c0_i32_3
  v9

def k0_cond2 (i : grid0.Coords) : BitVec 1 :=
  let arg0 : BitVec 32 := BitVec.ofNat 32 (i 0).val
  let c0_i32_4 : BitVec 32 := 0#32
  let v10 : BitVec 1 := Scalar.cmpi .sgt arg0 c0_i32_4
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S2048x32768 : Shape := ⟨2, ![2048, 32768]⟩
abbrev S32768x2048 : Shape := ⟨2, ![32768, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x32768, .f32⟩
  | .hbm, ⟨1, _⟩ => ⟨S2048x32768, .f32⟩
  | .hbm, ⟨2, _⟩ => ⟨S32768x2048, .f32⟩
  | .hbm, ⟨3, _⟩ => ⟨S2048x2048, .f32⟩
  | _, _ => ⟨S2048x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Prog.lean ====
/-
# The kernel body as a run of equal steps

The printed body of the matmul kernel ends, at the last grid point, in a long straight line of memory operations: a
barrier, then six exchange steps (three of the reduce-scatter, three of the all-gather). Here one step is written once,
as a program over the slot it uses, the rectangles of the output block it reads and writes and the two devices it sends
to, and the printed line is shown to be six of them in a row.
-/
module

public import proofs.«01_k».proof.Proof.Gen.KernelIdeal.Skeleton
public import Idealize.ShloMosaic.Lib.Pipeline.Regions

@[expose] public section

noncomputable section

namespace Cert.KernelIdeal.Pf

open Cert.KernelIdeal Cert.KernelIdeal.Gen
open Idealize.ShloMosaic Idealize.SL.Sem

variable {F : FTy → Type} [FloatOps F]

/-- Slot `b` of a two-slot communication buffer lies inside it. -/
theorem slot_inb (b : Fin 2) : ∀ a, (![b.val, 0, 0] : Fin 3 → Nat) a + S1x512x1024.size a ≤ S2x512x1024.size a := by
  fin_cases b <;> decide

/-- The rectangle of slot `b`. -/
abbrev slotR (b : Fin 2) : Rect S2x512x1024 := Rect.unit (s := S2x512x1024) ![b.val, 0, 0] S1x512x1024.size (slot_inb b)

/-- A slot is a whole number of packed rows. -/
theorem slot_packed (b : Fin 2) : (slotR b).PackedRows (EltTy.packing .bf16) := by
  fin_cases b
  · exact packedbf16_S2x512x1024_S1x512x1024_0_0_0
  · exact packedbf16_S2x512x1024_S1x512x1024_1_0_0

/-- A slot is a whole number of words. -/
theorem slot_words (b : Fin 2) : (slotR b).WholeWords (EltTy.packing .bf16) := by
  fin_cases b
  · exact wordsbf16_S2x512x1024_S1x512x1024_0_0_0
  · exact wordsbf16_S2x512x1024_S1x512x1024_1_0_0

/-- Entry `(d, b)` of a two by two semaphore array lies inside it. -/
theorem sem_inb (d b : Fin 2) : ∀ a, (![d.val, b.val] : Fin 2 → Nat) a + S1x1.size a ≤ S2x2.size a := by
  fin_cases d <;> fin_cases b <;> decide

/-- Semaphore `(d, b)` of a two by two array. -/
abbrev semAt (a : DmaSems sig S2x2) (d b : Fin 2) : DmaSem sig :=
  ((a.slice (Rect.unit (s := S2x2) ![d.val, b.val] S1x1.size (sem_inb d b))).squeeze S_ squeezes_S1x1_S_).sem

/-- Slot `b` of a communication buffer, as the copies address it. -/
abbrev slotM (M : Memref sig .tc .vmem S2x512x1024 .bf16) (b : Fin 2) : Memref sig .tc .vmem S512x1024 .bf16 :=
  (M.slice (slotR b) (fun _ => rfl)).squeeze S512x1024 squeezes_S1x512x1024_S512x1024

/-- A chunk of the output block lies inside it. -/
abbrev Inb (o : Fin 2 → Nat) : Prop := ∀ a, o a + S512x1024.size a ≤ S2048x2048.size a

/-- The rectangle of the 512 by 1024 chunk of the output block at the offsets `o`. -/
abbrev chunkR (o : Fin 2 → Nat) (h : Inb o) : Rect S2048x2048 := Rect.unit (s := S2048x2048) o S512x1024.size h

section Steps

variable (arg3 : Memref sig .tc .vmem S2048x2048 .f32)
  (arg4 : Memref sig .tc .vmem S2x512x1024 .bf16) (h4 : arg4.IsWhole)
  (arg5 : Memref sig .tc .vmem S2x512x1024 .bf16) (h5 : arg5.IsWhole)
  (arg6 : Memref sig .tc .vmem S2x512x1024 .bf16) (h6 : arg6.IsWhole)
  (arg7 : Memref sig .tc .vmem S2x512x1024 .bf16) (h7 : arg7.IsWhole)
  (arg8 arg9 : DmaSems sig S2x2)

/-- Pack one chunk of the output block into a send slot. -/
def packP (M : Memref sig .tc .vmem S2x512x1024 .bf16) (hM : M.IsWhole) (b : Fin 2) (o : Fin 2 → Nat) (ho : Inb o) :
    Prog (TpuEff nD τ sig (Elt F) Λ₀ .tc) PUnit := do
  let x : Vec F S512x1024 .f32 ← Prog.lift (.load arg3 (chunkR o ho).toLoadRect (View.loadsAt_vmem h_S512x1024))
  let _ : Vec F S1x512x1024 .bf16 ← Prog.lift (.load M (slotR b).toLoadRect (View.loadsAt_vmem h_S1x512x1024))
  Prog.lift (.store M (slotR b) (k0_pay3 x) Finset.univ (View.stores_vmem h_S1x512x1024 (hM.storeExact_slice rfl _ (slot_packed b)) (fun _ => rfl)) (.inl rfl))

/-- Start one copy of a send slot to a neighbour's receive slot. -/
def startP (S R : Memref sig .tc .vmem S2x512x1024 .bf16) (hS : S.IsWhole) (hR : R.IsWhole) (d b : Fin 2) (n : Dev nD) :
    Prog (TpuEff nD τ sig (Elt F) Λ₀ .tc) PUnit :=
  Prog.lift (.enqueueDma (slotM S b) (.remote (Dev.tc n) (slotM R b) (.dma (semAt arg8 d b))) (.dma (semAt arg9 d b))
    ((hS.wordExact_slice rfl _ (slot_words b)).reshape _ _) ((hR.wordExact_slice rfl _ (slot_words b)).reshape _ _) ⟨⟨rfl, Or.inl rfl⟩, trivial⟩)

/-- Wait for one's own copy to have left, then for the neighbour's copy to have landed. -/
def awaitP (S R : Memref sig .tc .vmem S2x512x1024 .bf16) (hS : S.IsWhole) (hR : R.IsWhole) (d b : Fin 2) :
    Prog (TpuEff nD τ sig (Elt F) Λ₀ .tc) PUnit := do
  Prog.lift (.waitDma2 (semAt arg8 d b) (slotM R b) (slotM S b) ((hR.wordExact_slice rfl _ (slot_words b)).reshape _ _) ((hS.wordExact_slice rfl _ (slot_words b)).reshape _ _))
  Prog.lift (.waitDma2 (semAt arg9 d b) (slotM S b) (slotM R b) ((hS.wordExact_slice rfl _ (slot_words b)).reshape _ _) ((hR.wordExact_slice rfl _ (slot_words b)).reshape _ _))

/-- Add one landed chunk into the output block. -/
def addP (R : Memref sig .tc .vmem S2x512x1024 .bf16) (b : Fin 2) (o : Fin 2 → Nat) (ho : Inb o) :
    Prog (TpuEff nD τ sig (Elt F) Λ₀ .tc) PUnit := do
  let x : Vec F S512x1024 .f32 ← Prog.lift (.load arg3 (chunkR o ho).toLoadRect (View.loadsAt_vmem h_S512x1024))
  let y : Vec F S1x512x1024 .bf16 ← Prog.lift (.load R (slotR b).toLoadRect (View.loadsAt_vmem h_S1x512x1024))
  let _ : Vec F S512x1024 .f32 ← Prog.lift (.load arg3 (chunkR o ho).toLoadRect (View.loadsAt_vmem h_S512x1024))
  Prog.lift (.store arg3 (chunkR o ho) (k0_pay5 x y) Finset.univ (View.stores_vmem_bits_univ h_S512x1024 rfl) (.inl rfl))

/-- Write one landed chunk over the output block's. -/
def copyP (R : Memref sig .tc .vmem S2x512x1024 .bf16) (b : Fin 2) (o : Fin 2 → Nat) (ho : Inb o) :
    Prog (TpuEff nD τ sig (Elt F) Λ₀ .tc) PUnit := do
  let y : Vec F S1x512x1024 .bf16 ← Prog.lift (.load R (slotR b).toLoadRect (View.loadsAt_vmem h_S1x512x1024))
  let _ : Vec F S512x1024 .f32 ← Prog.lift (.load arg3 (chunkR o ho).toLoadRect (View.loadsAt_vmem h_S512x1024))
  Prog.lift (.store arg3 (chunkR o ho) (k0_pay18 y) Finset.univ (View.stores_vmem_bits_univ h_S512x1024 rfl) (.inl rfl))

/-- Take one landed chunk in: add it while reducing, write it over while gathering. -/
def takeP (rs : Bool) (R : Memref sig .tc .vmem S2x512x1024 .bf16) (b : Fin 2) (o : Fin 2 → Nat) (ho : Inb o) :
    Prog (TpuEff nD τ sig (Elt F) Λ₀ .tc) PUnit :=
  match rs with
  | true => addP arg3 R b o ho
  | false => copyP arg3 R b o ho

/-- One exchange step: both send slots filled, both copies started and awaited, both landed chunks taken in. -/
def stepP (rs : Bool) (b : Fin 2) (o₁ o₂ o₃ o₄ : Fin 2 → Nat) (i₁ : Inb o₁) (i₂ : Inb o₂) (i₃ : Inb o₃) (i₄ : Inb o₄) (n p : Dev nD) :
    Prog (TpuEff nD τ sig (Elt F) Λ₀ .tc) PUnit := do
  packP arg3 arg4 h4 b o₁ i₁
  packP arg3 arg5 h5 b o₂ i₂
  startP arg8 arg9 arg4 arg6 h4 h6 0 b n
  startP arg8 arg9 arg5 arg7 h5 h7 1 b p
  awaitP arg8 arg9 arg4 arg6 h4 h6 0 b
  awaitP arg8 arg9 arg5 arg7 h5 h7 1 b
  takeP arg3 rs arg6 b o₃ i₃
  takeP arg3 rs arg7 b o₄ i₄

/-- The exchange of device `c`: the barrier with both neighbours, then the six steps. -/
def commP (i : grid0.Coords) (h : k0_cond3 i = 1#1) (c : Dev nD) : Prog (TpuEff nD τ sig (Elt F) Λ₀ .tc) PUnit := do
  semSignalWord (⟨k0_dev1 c, k0_dev1_lt i c h⟩ : Dev nD) barrier0 1#32
  semSignalWord (⟨k0_dev2 c, k0_dev2_lt i c h⟩ : Dev nD) barrier0 1#32
  semWaitWord barrier0 2#32
  stepP arg3 arg4 h4 arg5 h5 arg6 h6 arg7 h7 arg8 arg9 true 0 (k0_off1 c 0#32) (k0_off2 c 0#32) (k0_off3 c 0#32) (k0_off4 c 0#32)
    (k0_off1_inb i c h 0) (k0_off2_inb i c h 0) (k0_off3_inb i c h 0) (k0_off4_inb i c h 0) ⟨k0_dev3 c, k0_dev3_lt i c h⟩ ⟨k0_dev4 c, k0_dev4_lt i c h⟩
  stepP arg3 arg4 h4 arg5 h5 arg6 h6 arg7 h7 arg8 arg9 true 1 (k0_off1 c 1#32) (k0_off2 c 1#32) (k0_off3 c 1#32) (k0_off4 c 1#32)
    (k0_off1_inb i c h 1) (k0_off2_inb i c h 1) (k0_off3_inb i c h 1) (k0_off4_inb i c h 1) ⟨k0_dev5 c, k0_dev5_lt i c h⟩ ⟨k0_dev6 c, k0_dev6_lt i c h⟩
  stepP arg3 arg4 h4 arg5 h5 arg6 h6 arg7 h7 arg8 arg9 true 0 (k0_off1 c 2#32) (k0_off2 c 2#32) (k0_off3 c 2#32) (k0_off4 c 2#32)
    (k0_off1_inb i c h 2) (k0_off2_inb i c h 2) (k0_off3_inb i c h 2) (k0_off4_inb i c h 2) ⟨k0_dev7 c, k0_dev7_lt i c h⟩ ⟨k0_dev8 c, k0_dev8_lt i c h⟩
  stepP arg3 arg4 h4 arg5 h5 arg6 h6 arg7 h7 arg8 arg9 false 1 (k0_off5 c 0#32) (k0_off6 c 0#32) (k0_off1 c 0#32) (k0_off2 c 0#32)
    (k0_off5_inb i c h 0) (k0_off6_inb i c h 0) (k0_off1_inb i c h 0) (k0_off2_inb i c h 0) ⟨k0_dev9 c, k0_dev9_lt i c h⟩ ⟨k0_dev10 c, k0_dev10_lt i c h⟩
  stepP arg3 arg4 h4 arg5 h5 arg6 h6 arg7 h7 arg8 arg9 false 0 (k0_off5 c 1#32) (k0_off6 c 1#32) (k0_off1 c 1#32) (k0_off2 c 1#32)
    (k0_off5_inb i c h 1) (k0_off6_inb i c h 1) (k0_off1_inb i c h 1) (k0_off2_inb i c h 1) ⟨k0_dev11 c, k0_dev11_lt i c h⟩ ⟨k0_dev12 c, k0_dev12_lt i c h⟩
  stepP arg3 arg4 h4 arg5 h5 arg6 h6 arg7 h7 arg8 arg9 false 1 (k0_off5 c 2#32) (k0_off6 c 2#32) (k0_off1 c 2#32) (k0_off2 c 2#32)
    (k0_off5_inb i c h 2) (k0_off6_inb i c h 2) (k0_off1_inb i c h 2) (k0_off2_inb i c h 2) ⟨k0_dev13 c, k0_dev13_lt i c h⟩ ⟨k0_dev14 c, k0_dev14_lt i c h⟩

end Steps

set_option maxRecDepth 100000 in
/-- The printed tail of the body, from reading the device's number on, is `commP` at that device. -/
theorem comm_eq (i : grid0.Coords) (arg1 : Memref sig .tc .vmem S2048x512 .f32) (harg1 : arg1.IsWhole) (arg2 : Memref sig .tc .vmem S2048x512 .f32) (harg2 : arg2.IsWhole)
    (arg3 : Memref sig .tc .vmem S2048x2048 .f32) (harg3 : arg3.IsWhole) (arg4 : Memref sig .tc .vmem S2x512x1024 .bf16) (harg4 : arg4.IsWhole)
    (arg5 : Memref sig .tc .vmem S2x512x1024 .bf16) (harg5 : arg5.IsWhole) (arg6 : Memref sig .tc .vmem S2x512x1024 .bf16) (harg6 : arg6.IsWhole)
    (arg7 : Memref sig .tc .vmem S2x512x1024 .bf16) (harg7 : arg7.IsWhole) (arg8 arg9 : DmaSems sig S2x2) (h : k0_cond3 i = 1#1) :
    ((k0_part27 (F := F) i arg1 harg1 arg2 harg2 arg3 harg3 arg4 harg4 arg5 harg5 arg6 harg6 arg7 harg7 arg8 arg9 h) >>= fun x => do
        let _ : Vec F S512x1024 .f32 ← Prog.lift (.load arg3 (Rect.unit (s := S2048x2048) (k0_off2 x.1 2#32) S512x1024.size (k0_off2_inb i x.1 h 2)).toLoadRect (View.loadsAt_vmem h_S512x1024))
        Prog.lift (.store arg3 (Rect.unit (s := S2048x2048) (k0_off2 x.1 2#32) S512x1024.size (k0_off2_inb i x.1 h 2)) x.2.2 Finset.univ (View.stores_vmem_bits_univ h_S512x1024 rfl) (.inl rfl))
        pure ⟨⟩ : Prog (TpuEff nD τ sig (Elt F) Λ₀ .tc) PUnit)
      = (Prog.lift .deviceId >>= fun c : Dev nD => commP arg3 arg4 harg4 arg5 harg5 arg6 harg6 arg7 harg7 arg8 arg9 i h c) := by
  chain_rfl

end Cert.KernelIdeal.Pf

end
-- ==== Proof.Common.lean ====
/-
# The exchange between the devices: what is held, sent and owed

Four devices stand in a ring. Direction `0` runs to the next device, direction `1` to the previous one. In step `u` of
the exchange (`u < 6`) every device packs one chunk of its output block per direction, copies it into the neighbour's
receive slot `u % 2`, waits for both of its own copies and for both landed ones, and takes the landed chunks in: added
in steps 0, 1 and 2, written over in steps 3, 4 and 5.

This module states the protocol: the contents of every device's output block after each step, the semaphore cells, what
each completed wait hands over, what a device still owes before each step, and the order in which waits are allowed.
A landed copy also brings the sender's own free receive slot for the step after, so that no slot is written while in use.
-/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the exchange: rounds of cells whose duties are named by a direction. -/
abbrev UB : Type := URounds (GSem nD τ sig) (Fin 2)
/-- The pipeline's ghost state beside the exchange's. -/
abbrev UU : Type := UR sig nD τ × UB

local notation "𝕄" => MT nD τ sig ℕ (Elt F) ℕ UU ℕ

/-- The pipeline's part of the ghost state. -/
abbrev EP : Emb (UR sig nD τ) (MT nD τ sig ℕ (Elt F) ℕ UU ℕ) := embL
/-- The exchange's part of the ghost state. -/
abbrev ER : Emb UB (MT nD τ sig ℕ (Elt F) ℕ UU ℕ) := embR

/-! ## The ring -/

set_option backward.proofsInPublic true in
/-- The device that direction `d` leads to: the next one for `0`, the previous one for `1`. -/
def nb (d : Fin 2) (c : Dev nD) : Dev nD := ⟨(c.val + 1 + 2 * d.val) % 4, Nat.mod_lt _ (by decide)⟩

/-- The device that direction `d` comes from. -/
abbrev fr (d : Fin 2) (c : Dev nD) : Dev nD := nb (1 - d) c

theorem fr_nb (d : Fin 2) (c : Dev nD) : fr d (nb d c) = c := by revert d c; decide
theorem nb_fr (d : Fin 2) (c : Dev nD) : nb d (fr d c) = c := by revert d c; decide
theorem sub_sub_dir (d : Fin 2) : 1 - (1 - d) = d := by revert d; decide
theorem fr_sub (d : Fin 2) (c : Dev nD) : fr (1 - d) c = nb d c := by rw [fr, sub_sub_dir]

/-! ## Buffers, slots and chunks -/

/-- The staging buffer of the output block. -/
abbrev oM : Memref sig .tc .vmem S2048x2048 .f32 := Memref.whole cc0_stg2_0

/-- The send buffer of a direction. -/
abbrev sendM (d : Fin 2) : Memref sig .tc .vmem S2x512x1024 .bf16 :=
  match d with
  | 0 => Memref.whole cc0_scratch0
  | 1 => Memref.whole cc0_scratch1

/-- The receive buffer of a direction. -/
abbrev recvM (d : Fin 2) : Memref sig .tc .vmem S2x512x1024 .bf16 :=
  match d with
  | 0 => Memref.whole cc0_scratch2
  | 1 => Memref.whole cc0_scratch3

/-- The slot a step uses. -/
def sl (u : ℕ) : Fin 2 := ⟨u % 2, Nat.mod_lt _ (by decide)⟩

/-- A slot of a communication buffer before its leading axis is dropped. -/
abbrev slotW (M : Memref sig .tc .vmem S2x512x1024 .bf16) (b : Fin 2) : Memref sig .tc .vmem (slotR b).shape .bf16 :=
  M.slice (slotR b) (fun _ => rfl)

/-- The contents of an output block. -/
abbrev OutV (F : FTy → Type) : Type := (cc0_stg2_0 : Ref sig .tc).ty.Contents (Elt F)

/-- The offsets of the chunk that a device sends in step `u`: one row of chunks backwards per step in direction `0`,
    forwards in direction `1`; the column half is the direction's. -/
def coff (u : ℕ) (d : Fin 2) (c : Dev nD) : Fin 2 → ℕ :=
  ![512 * ((c.val + (3 - 2 * d.val) * u) % 4), 1024 * d.val]

theorem coff_inb (u : ℕ) (d : Fin 2) (c : Dev nD) : Inb (coff u d c) := by
  have h := Nat.mod_lt (c.val + (3 - 2 * d.val) * u) (show 0 < 4 by decide)
  have hd := d.isLt
  intro a
  fin_cases a
  · show 512 * ((c.val + (3 - 2 * d.val) * u) % 4) + 512 ≤ 2048; omega
  · show 1024 * d.val + 1024 ≤ 2048; omega

/-- The rectangle of that chunk. -/
abbrev cR (u : ℕ) (d : Fin 2) (c : Dev nD) : Rect S2048x2048 := chunkR (coff u d c) (coff_inb u d c)

/-- The chunk sent in step `u` over direction `d` by the device it comes from is the receiver's chunk of step `u + 1`. -/
theorem coff_fr (u : ℕ) (d : Fin 2) (c : Dev nD) : coff u d (fr d c) = coff (u + 1) d c := by
  unfold coff fr nb
  have hc := c.isLt
  have : ∀ e : Fin 2, e = 0 ∨ e = 1 := by decide
  rcases this d with rfl | rfl
  · simp only [Fin.isValue, Fin.val_zero, Nat.mul_zero, Nat.sub_zero, sub_zero, Fin.val_one]
    congr 2; omega
  · simp only [Fin.isValue, Fin.val_zero, Nat.mul_zero, sub_self, Fin.val_one]
    congr 2; omega

/-! ## Contents -/

/-- The chunk of `f` that device `c` sends in step `u`, read. -/
def chunk (u : ℕ) (d : Fin 2) (c : Dev nD) (f : OutV F) : Vec F S512x1024 .f32 :=
  (oM.access (cR u d c) : View sig .tc _ _ _).read (Elt F) f

/-- A landed chunk `y` taken into the block `f` of device `c` in step `u`: added while `u < 3`, else written over. -/
def takeF (u : ℕ) (d : Fin 2) (c : Dev nD) (f : OutV F) (y : Vec F S1x512x1024 .bf16) : OutV F :=
  (oM.access (cR (u + 1) d c) : View sig .tc _ _ _).write (Elt F) f
    (if u < 3 then k0_pay5 (chunk (u + 1) d c f) y else k0_pay18 y) Finset.univ

section Contents

variable (A : Dev nD → OutV F)

/-- The output block of each device before step `u`, from the partial products `A`. -/
def outS : ℕ → Dev nD → OutV F
  | 0, c => A c
  | u + 1, c => takeF u 1 c (takeF u 0 c (outS u c) (k0_pay3 (chunk u 0 (fr 0 c) (outS u (fr 0 c)))))
      (k0_pay3 (chunk u 1 (fr 1 c) (outS u (fr 1 c))))

/-- What device `c` sends in step `u` over direction `d`. -/
def msg (u : ℕ) (d : Fin 2) (c : Dev nD) : Vec F S1x512x1024 .bf16 := k0_pay3 (chunk u d c (outS A u c))

theorem outS_succ (u : ℕ) (c : Dev nD) :
    outS A (u + 1) c = takeF u 1 c (takeF u 0 c (outS A u c) (msg A u 0 (fr 0 c))) (msg A u 1 (fr 1 c)) := rfl

end Contents

/-! ## Cells -/

/-- The send semaphore of a direction and slot. -/
abbrev sS (d b : Fin 2) : DmaSem sig := ⟨5 + 2 * d.val + b.val, by have := d.isLt; have := b.isLt; show _ < 13; omega⟩
/-- The receive semaphore of a direction and slot. -/
abbrev rS (d b : Fin 2) : DmaSem sig := ⟨9 + 2 * d.val + b.val, by have := d.isLt; have := b.isLt; show _ < 13; omega⟩

theorem semAt_send (d b : Fin 2) : semAt cc0_scratch4 d b = sS d b := by fin_cases d <;> fin_cases b <;> rfl
theorem semAt_recv (d b : Fin 2) : semAt cc0_scratch5 d b = rS d b := by fin_cases d <;> fin_cases b <;> rfl

/-- The send cell of step `u`. -/
abbrev sCell (c : Dev nD) (d : Fin 2) (u : ℕ) : GSem nD τ sig := ((c : Thread nD τ), .dma (sS d (sl u)))
/-- The receive cell of step `u`. -/
abbrev rCell (c : Dev nD) (d : Fin 2) (u : ℕ) : GSem nD τ sig := ((c : Thread nD τ), .dma (rS d (sl u)))
/-- The barrier's cell. -/
abbrev bCell (c : Dev nD) : GSem nD τ sig := ((c : Thread nD τ), .reg barrier0)

/-- The units one copy credits. -/
abbrev N : ℕ := (slotM (recvM 0) 0).view.dmaCredit
theorem N_pos : 0 < N := View.dmaCredit_pos _ (by decide)
theorem credit_recv (d b : Fin 2) : (slotM (recvM d) b).view.dmaCredit = N := by fin_cases d <;> fin_cases b <;> rfl
theorem credit_send (d b : Fin 2) : (slotM (sendM d) b).view.dmaCredit = N := by fin_cases d <;> fin_cases b <;> rfl

/-! ## What is held -/

/-- A slot of a device's buffer, holding `y`. -/
def slotAt (c : Dev nD) (M : Memref sig .tc .vmem S2x512x1024 .bf16) (b : Fin 2) (y : Vec F S1x512x1024 .bf16) : sProp 𝕄 :=
  owns (c : Thread nD τ) (slotW M b) fullShare y

/-- A slot holding anything. -/
def slotAny (c : Dev nD) (M : Memref sig .tc .vmem S2x512x1024 .bf16) (b : Fin 2) : sProp 𝕄 := iprop(∃ y, slotAt (F := F) c M b y)

/-- Leave to write device `q`'s receive slot of step `u`, direction `d`. -/
def rider (q : Dev nD) (d : Fin 2) (u : ℕ) : sProp 𝕄 :=
  iprop(slotAny (F := F) q (recvM d) (sl u) ∗ reached ER (rCell q d u) (u / 2))

instance slotAt_storable (c : Dev nD) (M) (b : Fin 2) (y) : BI.Storable (upEmb : UEmb _ 𝕄) (slotAt (F := F) c M b y) := by
  unfold slotAt; infer_instance
instance slotAny_storable (c : Dev nD) (M) (b : Fin 2) : BI.Storable (upEmb : UEmb _ 𝕄) (slotAny (F := F) c M b) := by
  unfold slotAny; infer_instance
instance rider_storable (q : Dev nD) (d : Fin 2) (u : ℕ) : BI.Storable (upEmb : UEmb _ 𝕄) (rider (F := F) q d u) := by
  unfold rider; infer_instance

section Sched

variable (A : Dev nD → OutV F)

/-- What a receive wait of step `u` hands over: the landed chunk and, in the middle steps, leave for the step after in the
    other direction. -/
def recvPay (c : Dev nD) (d : Fin 2) (u : ℕ) : sProp 𝕄 :=
  iprop(slotAt (F := F) c (recvM d) (sl u) (msg A u d (fr d c)) ∗ if 1 ≤ u ∧ u ≤ 4 then rider (fr d c) (1 - d) (u + 1) else emp)

/-- What the barrier hands over from the neighbour in direction `d`: leave for the first two steps. -/
def barPay (c : Dev nD) (d : Fin 2) : sProp 𝕄 := iprop(rider (F := F) (nb d c) d 0 ∗ rider (nb d c) d 1)

instance recvPay_storable (c : Dev nD) (d : Fin 2) (u : ℕ) : BI.Storable (upEmb : UEmb _ 𝕄) (recvPay A c d u) := by
  unfold recvPay
  split <;> infer_instance
instance barPay_storable (c : Dev nD) (d : Fin 2) : BI.Storable (upEmb : UEmb _ 𝕄) (barPay (F := F) c d) := by
  unfold barPay; infer_instance

/-- The direction a copy's semaphore belongs to. -/
def dirOf (q : DmaSem sig) : Fin 2 := ⟨((q.val - 1) / 2) % 2, Nat.mod_lt _ (by decide)⟩
/-- The slot a copy's semaphore belongs to. -/
def slotOf (q : DmaSem sig) : Fin 2 := ⟨(q.val + 1) % 2, Nat.mod_lt _ (by decide)⟩

theorem dir_sS (d b : Fin 2) : dirOf (sS d b) = d := by revert d b; decide
theorem dir_rS (d b : Fin 2) : dirOf (rS d b) = d := by revert d b; decide
theorem slot_sS (d b : Fin 2) : slotOf (sS d b) = b := by revert d b; decide
theorem slot_rS (d b : Fin 2) : slotOf (rS d b) = b := by revert d b; decide

/-- The schedule of the exchange: the barrier's one round of two units, and three rounds of one copy on each of the eight
    copy semaphores, with what each hands over. -/
def sched : Rounds.Schedule (GSem nD τ sig) (Fin 2) 𝕄 where
  duties g r := if g.1.2 = .tc then
      match g.2 with
      | .reg _ => if r = 0 then Finset.univ else ∅
      | .dma q => if 5 ≤ q.val ∧ r < 3 then {0} else ∅
    else ∅
  unitless _ := False
  amount g _ _ := match g.2 with
    | .reg _ => 1
    | .dma _ => N
  payload g r d := match g.2 with
    | .reg _ => barPay g.1.1 d
    | .dma q => if 9 ≤ q.val then recvPay A g.1.1 (dirOf q) (2 * r + (slotOf q).val) else slotAny g.1.1 (sendM (dirOf q)) (slotOf q)
  amount_pos g r d _ := by
    rcases g with ⟨_, s | q⟩
    · exact Nat.one_pos
    · exact N_pos

instance sched_storable (g : GSem nD τ sig) (r : ℕ) (d : Fin 2) : BI.Storable (upEmb : UEmb _ 𝕄) ((sched A).payload g r d) := by
  rcases g with ⟨⟨c, p⟩, s | q⟩
  · show BI.Storable upEmb (barPay c d); infer_instance
  · show BI.Storable upEmb (if 9 ≤ q.val then recvPay A c (dirOf q) (2 * r + (slotOf q).val) else slotAny c (sendM (dirOf q)) (slotOf q))
    split <;> infer_instance

theorem sl_val (u : ℕ) : 2 * (u / 2) + (sl u).val = u := by unfold sl; show 2 * (u / 2) + u % 2 = u; omega

variable (c : Dev nD) (d : Fin 2)

theorem duties_bar : (sched A).duties (bCell c) 0 = Finset.univ := by dsimp only [sched]; rw [if_pos rfl, if_pos rfl]
theorem duties_bar_later : ∀ r, 1 ≤ r → (sched A).duties (bCell c) r = ∅ := fun r hr => by
  dsimp only [sched]; rw [if_pos rfl, if_neg (by omega)]
theorem duties_copy (q : DmaSem sig) (hq : 5 ≤ q.val) (r : ℕ) (hr : r < 3) : (sched A).duties ((c : Thread nD τ), .dma q) r = {0} := by
  dsimp only [sched]; rw [if_pos rfl, if_pos ⟨hq, hr⟩]
theorem duties_copy_later (q : DmaSem sig) : ∀ r, 3 ≤ r → (sched A).duties ((c : Thread nD τ), .dma q) r = ∅ := fun r hr => by
  dsimp only [sched]; rw [if_pos rfl, if_neg (by omega)]

theorem amount_bar (r : ℕ) : (sched A).amount (bCell c) r d = 1 := rfl
theorem amount_copy (q : DmaSem sig) (r : ℕ) : (sched A).amount ((c : Thread nD τ), .dma q) r d = N := rfl

theorem expect_bar : (sched A).expect (bCell c) 0 = 2 := by
  unfold Schedule.expect Schedule.amountOf
  rw [duties_bar, Finset.sum_congr rfl fun d _ => amount_bar A c d 0, Finset.sum_const, Finset.card_univ, Fintype.card_fin, smul_eq_mul]
theorem expect_copy (q : DmaSem sig) (hq : 5 ≤ q.val) (r : ℕ) (hr : r < 3) : (sched A).expect ((c : Thread nD τ), .dma q) r = N := by
  unfold Schedule.expect Schedule.amountOf; rw [duties_copy A c q hq r hr, Finset.sum_singleton, amount_copy]

theorem payload_bar (r : ℕ) : (sched A).payload (bCell c) r d = barPay c d := rfl
theorem payload_send (u : ℕ) (e : Fin 2) : (sched A).payload (sCell c d u) (u / 2) e = slotAny c (sendM d) (sl u) := by
  dsimp only [sched]
  rw [if_neg (by have := d.isLt; have := (sl u).isLt; show ¬ 9 ≤ 5 + 2 * d.val + (sl u).val; omega), dir_sS, slot_sS]
theorem payload_recv (u : ℕ) (e : Fin 2) : (sched A).payload (rCell c d u) (u / 2) e = recvPay A c d u := by
  dsimp only [sched]
  rw [if_pos (by show 9 ≤ 9 + 2 * d.val + (sl u).val; omega), dir_rS, slot_rS, sl_val]

theorem rest_bar : bigSep ((sched A).duties (bCell c) 0 \ ∅) (fun d => (sched A).payload (bCell c) 0 d) = iprop(barPay c 0 ∗ barPay c 1) := by
  rw [Finset.sdiff_empty, duties_bar, bigSep_univ_eq_bigSepL [0, 1] (by decide) (by decide), bigSepL_cons_cons, bigSepL_singleton]
  rfl
theorem rest_copy (q : DmaSem sig) (hq : 5 ≤ q.val) (r : ℕ) (hr : r < 3) :
    bigSep ((sched A).duties ((c : Thread nD τ), .dma q) r \ ∅) (fun d => (sched A).payload ((c : Thread nD τ), .dma q) r d)
      = (sched A).payload ((c : Thread nD τ), .dma q) r 0 := by
  rw [Finset.sdiff_empty, duties_copy A c q hq r hr, bigSep_singleton]

end Sched

/-! ## What is owed, and the order of waits -/

/-- What a device owes with `n` steps left: per step, its copy to each neighbour. -/
def Ow (c : Dev nD) : ℕ → CellTallies nD τ sig ℕ
  | 0 => 0
  | n + 1 => Ow c n + tallyAt (rCell (nb 1 c) 1 (5 - n)) (5 - n) N + tallyAt (rCell (nb 0 c) 0 (5 - n)) (5 - n) N

/-- What a device owes at launch: the six steps and its two barrier signals. -/
def O₀ (c : Dev nD) : CellTallies nD τ sig ℕ := Ow c 6 + tallyAt (bCell (nb 0 c)) 0 1 + tallyAt (bCell (nb 1 c)) 0 1

theorem Ow_pos {c : Dev nD} {n : ℕ} (hn : n ≤ 6) {g : GSem nD τ sig} {i : ℕ} (h : 0 < Ow c n g i) :
    ∃ d u, u < 6 ∧ 6 ≤ u + n ∧ g = rCell (nb d c) d u ∧ i = u := by
  induction n with
  | zero => exact absurd h (Nat.lt_irrefl 0)
  | succ n ih =>
    unfold Ow at h
    rw [Pi.add_apply, Finsupp.add_apply, Pi.add_apply, Finsupp.add_apply] at h
    rcases Nat.add_pos_iff_pos_or_pos.mp h with h | h
    · rcases Nat.add_pos_iff_pos_or_pos.mp h with h | h
      · obtain ⟨d, u, h1, h2, h3⟩ := ih (by omega) h
        exact ⟨d, u, h1, by omega, h3⟩
      · obtain ⟨h1, h2⟩ := Pipeline.tallyAt_pos h
        exact ⟨1, 5 - n, by omega, by omega, h1, h2⟩
    · obtain ⟨h1, h2⟩ := Pipeline.tallyAt_pos h
      exact ⟨0, 5 - n, by omega, by omega, h1, h2⟩

theorem O₀_pos {c : Dev nD} {g : GSem nD τ sig} {i : ℕ} (h : 0 < O₀ c g i) :
    (∃ d u, u < 6 ∧ g = rCell (nb d c) d u ∧ i = u) ∨ (∃ d, g = bCell (nb d c) ∧ i = 0) := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨d, u, h1, -, h3⟩ := Ow_pos (by omega) h
      exact .inl ⟨d, u, h1, h3⟩
    · exact .inr ⟨0, Pipeline.tallyAt_pos h⟩
  · exact .inr ⟨1, Pipeline.tallyAt_pos h⟩

/-- The indices a cell's units are counted under: one per step. -/
def L (g : GSem nD τ sig) : Finset ℕ := if g.1.2 = .tc then Finset.range 6 else ∅
/-- The level of a cell and index: staging and send cells lowest, the barrier above, the receive cells by step on top. -/
def lv (g : GSem nD τ sig) (i : ℕ) : ℕ := match g.2 with
  | .reg _ => 1
  | .dma q => if 9 ≤ q.val then 2 + i else 0

theorem L_of_ne (g : GSem nD τ sig) (h : g.1.2 ≠ .tc) : L g = ∅ := if_neg h
theorem L_tc (c : Dev nD) (sm : SemLoc sig) : L ((c : Thread nD τ), sm) = Finset.range 6 := if_pos rfl
theorem lv_recv (c : Dev nD) (d : Fin 2) (u i : ℕ) : lv (rCell c d u) i = 2 + i := by
  dsimp only [lv]; rw [if_pos (by show 9 ≤ 9 + 2 * d.val + (sl u).val; omega)]

/-- A wait is allowed below everything owed. -/
theorem mayWait_below (c : Dev nD) (sm : SemLoc sig) (i : ℕ) (hi : i < 6) (O : CellTallies nD τ sig ℕ)
    (hO : ∀ g u, 0 < O g u → u ∈ L g ∧ lv ((c : Thread nD τ), sm) i < lv g u) :
    (levAts L lv : sProp 𝕄) ⊢ MayWait (c : Thread nD τ) sm i O :=
  MayOwe.of_cut (L := L) (lev := lv) (lv ((c : Thread nD τ), sm) i)
    (fun p hp => by rw [Finset.mem_singleton.mp hp, L_tc]; exact Finset.mem_range.mpr hi)
    (fun g u hg => (hO g u hg).1)
    (fun p hp => by rw [Finset.mem_singleton.mp hp])
    (fun g u hg => (hO g u hg).2)

/-- A wait below level `2 + t` is allowed while only the steps from `t` on are owed. -/
theorem mayWait_steps (c : Dev nD) (sm : SemLoc sig) (i : ℕ) (hi : i < 6) (n : ℕ) (hn : n ≤ 6)
    (h : lv ((c : Thread nD τ), sm) i + n < 8) :
    (levAts L lv : sProp 𝕄) ⊢ MayWait (c : Thread nD τ) sm i (Ow c n) :=
  mayWait_below c sm i hi _ fun g u hg => by
    obtain ⟨d, u, h1, h2, rfl, rfl⟩ := Ow_pos hn hg
    refine ⟨by rw [L_tc]; exact Finset.mem_range.mpr h1, ?_⟩
    rw [lv_recv]; omega

/-- A staging wait is allowed while everything is owed, and when nothing is. -/
theorem mayWait_stage (c : Dev nD) (q : DmaSem sig) (hq : q.val < 9) (O : CellTallies nD τ sig ℕ) (hO : O = O₀ c ∨ O = 0) :
    (levAts L lv : sProp 𝕄) ⊢ MayWait (c : Thread nD τ) (.dma q) 0 O := by
  have h0 : lv ((c : Thread nD τ), .dma q) 0 = 0 := by dsimp only [lv]; rw [if_neg (by omega)]
  rcases hO with rfl | rfl
  · refine mayWait_below c _ 0 (by decide) _ fun g u hg => ?_
    rw [h0]
    rcases O₀_pos hg with ⟨d, u, h1, rfl, rfl⟩ | ⟨d, rfl, rfl⟩
    · rw [lv_recv]; exact ⟨by rw [L_tc]; exact Finset.mem_range.mpr h1, by omega⟩
    · exact ⟨by rw [L_tc]; exact Finset.mem_range.mpr (by decide), Nat.one_pos⟩
  · rw [MayWait_zero]; iintro -; iempintro

end Cert.KernelIdeal.Pf

end
-- ==== Proof.Step.lean ====
/-
# One step of the exchange

Each part of a step — packing, starting a copy, waiting, taking a landed chunk in — is proved once for any direction and
step number, and the parts are put together into one rule for a whole step.
-/
module

public import proofs.«01_k».proof.Proof.Common
public import Idealize.ShloMosaic.Lib.Writes

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- Running a program on device `c`'s core. -/
abbrev wpC {α : Type} (c : Dev nD) (p : Prog (TpuEff nD τ sig (Elt F) Λ₀ .tc) α) (Kt : α → sProp 𝕄) : sProp 𝕄 :=
  wp frame (wpE (defs₀ (F := F)) 𝒱₀ (c : Thread nD τ) none) Set.univ p Kt

/-- A finished program has what its end asks for. -/
theorem wpC_ret {α : Type} (c : Dev nD) (x : α) (Q : α → sProp 𝕄) : Q x ⊢ wpC c (.ret x) Q := by
  unfold wpC
  rw [wp_ret]
  iintro H; imodintro; iexact H

/-- The output block of device `c` holds `f`. -/
abbrev outP (c : Dev nD) (f : OutV F) : sProp 𝕄 := ((c : Thread nD τ).loc cc0_stg2_0) ↦{fullShare} f

/-- What is owed, whatever was waited for so far. -/
def owesAny (c : Dev nD) (O : CellTallies nD τ sig ℕ) : sProp 𝕄 := iprop(∃ W, owes (c : Thread nD τ) O W)

/-! ## Reading and writing a slot -/

section Slot

variable (c : Dev nD) (M : Memref sig .tc .vmem S2x512x1024 .bf16) (b : Fin 2)

/-- A load of a whole slot reads what it holds. -/
theorem wp_slot_load (y : Vec F S1x512x1024 .bf16) {hl : M.view.LoadsAt (slotR b).toLoadRect} {α : Type}
    {k : Vec F S1x512x1024 .bf16 → Prog (TpuEff nD τ sig (Elt F) Λ₀ .tc) α} {Q : α → sProp 𝕄} :
    slotAt c M b y ⊢ iprop((slotAt c M b y -∗ wpC c (k y) Q) -∗ wpC c (.op (.load M (slotR b).toLoadRect hl) k) Q) := by
  unfold slotAt owns
  iintro ⟨%f, %hf, H⟩ Hk
  iapply (wp_load_rect 𝒱₀ (c : Thread nD τ) none Set.univ (m := M) (r := slotR b) (S := (slotW M b).view.set) (Finset.Subset.refl _)) $$ H
  iintro H
  rw [show (M.access (slotR b)).read (Elt F) f = y from hf]
  iapply Hk
  iexists f; isplitr
  · ipureintro; exact hf
  · iexact H

/-- A store of a whole slot leaves the stored value in it. -/
theorem wp_slot_store (y w : Vec F S1x512x1024 .bf16) {hx : (M.access (slotR b)).Stores Finset.univ} {hm} {α : Type}
    {k : PUnit → Prog (TpuEff nD τ sig (Elt F) Λ₀ .tc) α} {Q : α → sProp 𝕄} :
    slotAt c M b y ⊢ iprop((slotAt c M b w -∗ wpC c (k ⟨⟩) Q) -∗ wpC c (.op (.store M (slotR b) w Finset.univ hx hm) k) Q) := by
  unfold slotAt owns
  iintro ⟨%f, %hf, H⟩ Hk
  iapply (wp_store 𝒱₀ (c : Thread nD τ) none Set.univ (m := M) (r := slotR b) (Mk := Finset.univ) (S := (slotW M b).view.set) (Finset.Subset.refl _)) $$ H
  iintro H
  iapply Hk
  iexists ((slotW M b).view.write (Elt F) f w Finset.univ); isplitr
  · ipureintro; exact View.read_write_univ f w
  · iexact H

end Slot

/-! ## Packing and taking in -/

section Chunk

variable (c : Dev nD) (d b : Fin 2) (u : ℕ) (f : OutV F)

/-- Packing leaves the device's chunk of the step, packed, in the send slot. -/
theorem wp_pack (M : Memref sig .tc .vmem S2x512x1024 .bf16) (hM : M.IsWhole) (o : Fin 2 → Nat) (ho : Inb o) (hoc : o = coff u d c)
    (Q : PUnit → sProp 𝕄) :
    iprop(outP c f ∗ slotAny c M b) ⊢ iprop(((outP c f ∗ slotAt c M b (k0_pay3 (chunk u d c f))) -∗ Q ⟨⟩) -∗ wpC c (packP oM M hM b o ho) Q) := by
  subst hoc
  unfold packP slotAny
  simp only [Prog.lift, Prog.bind_op, Prog.bind_ret, Prog.pure_eq_ret]
  iintro ⟨Ho, %y, Hs⟩ Hk
  iapply (wp_load_rect 𝒱₀ (c : Thread nD τ) none Set.univ (m := oM) (r := cR u d c) (S := Finset.univ) (Finset.subset_univ _)) $$ Ho
  iintro Ho
  iapply (wp_slot_load c M b y) $$ Hs
  iintro Hs
  iapply (wp_slot_store c M b y) $$ Hs
  iintro Hs
  iapply wpC_ret
  iapply Hk
  isplitl [Ho]
  · iexact Ho
  · iexact Hs

/-- Taking a landed chunk in. -/
theorem wp_take (rs : Bool) (hrs : rs = decide (u < 3)) (M : Memref sig .tc .vmem S2x512x1024 .bf16) (y : Vec F S1x512x1024 .bf16)
    (o : Fin 2 → Nat) (ho : Inb o) (hoc : o = coff (u + 1) d c) (Q : PUnit → sProp 𝕄) :
    iprop(outP c f ∗ slotAt c M b y) ⊢ iprop(((outP c (takeF u d c f y) ∗ slotAt c M b y) -∗ Q ⟨⟩) -∗ wpC c (takeP oM rs M b o ho) Q) := by
  subst hoc
  unfold takeF
  iintro ⟨Ho, Hs⟩ Hk
  by_cases h : u < 3
  · rw [if_pos h]
    rw [show rs = true from hrs.trans (decide_eq_true h)]
    unfold takeP addP
    simp only [Prog.lift, Prog.bind_op, Prog.bind_ret, Prog.pure_eq_ret]
    iapply (wp_load_rect 𝒱₀ (c : Thread nD τ) none Set.univ (m := oM) (r := cR (u + 1) d c) (S := Finset.univ) (Finset.subset_univ _)) $$ Ho
    iintro Ho
    iapply (wp_slot_load c M b y) $$ Hs
    iintro Hs
    iapply (wp_load_rect 𝒱₀ (c : Thread nD τ) none Set.univ (m := oM) (r := cR (u + 1) d c) (S := Finset.univ) (Finset.subset_univ _)) $$ Ho
    iintro Ho
    iapply (wp_store 𝒱₀ (c : Thread nD τ) none Set.univ (m := oM) (r := cR (u + 1) d c) (Mk := Finset.univ) (S := Finset.univ) (Finset.subset_univ _)) $$ Ho
    iintro Ho
    iapply wpC_ret
    iapply Hk
    isplitl [Ho]
    · iexact Ho
    · iexact Hs
  · rw [if_neg h]
    rw [show rs = false from hrs.trans (decide_eq_false h)]
    unfold takeP copyP
    simp only [Prog.lift, Prog.bind_op, Prog.bind_ret, Prog.pure_eq_ret]
    iapply (wp_slot_load c M b y) $$ Hs
    iintro Hs
    iapply (wp_load_rect 𝒱₀ (c : Thread nD τ) none Set.univ (m := oM) (r := cR (u + 1) d c) (S := Finset.univ) (Finset.subset_univ _)) $$ Ho
    iintro Ho
    iapply (wp_store 𝒱₀ (c : Thread nD τ) none Set.univ (m := oM) (r := cR (u + 1) d c) (Mk := Finset.univ) (S := Finset.univ) (Finset.subset_univ _)) $$ Ho
    iintro Ho
    iapply wpC_ret
    iapply Hk
    isplitl [Ho]
    · iexact Ho
    · iexact Hs

end Chunk

/-! ## Copies -/

section Copy

variable (A : Dev nD → OutV F)

/-- What lands in a slot reads as what the sent slot read. -/
theorem landed_read (S R : Memref sig .tc .vmem S2x512x1024 .bf16) (b : Fin 2) (fd : R.view.ty.Contents (Elt F)) (fs : S.view.ty.Contents (Elt F)) :
    (slotW R b).view.read (Elt F) ((slotM R b).view.write (Elt F) fd ((slotM S b).view.read (Elt F) fs) Finset.univ)
      = (slotW S b).view.read (Elt F) fs := by
  have e := View.write_reshape_univ (v := (slotW R b).view) (Val := Elt F) (squeezes_S1x512x1024_S512x1024.numel_eq) fd ((slotM S b).view.read (Elt F) fs)
  refine (congrArg ((slotW R b).view.read (Elt F)) e).trans ((View.read_write_univ _ _).trans ?_)
  funext x
  show (slotW S b).view.read (Elt F) fs (Shape.reshapeEquiv _ ((Shape.reshapeEquiv _).symm x)) = _
  rw [Equiv.apply_symm_apply]

/-- What a copy of step `u` carries beside the chunk: leave to write the sender's own slot of the step after. -/
def ride (c : Dev nD) (d : Fin 2) (u : ℕ) : sProp 𝕄 := if 1 ≤ u ∧ u ≤ 4 then rider (F := F) c (1 - d) (u + 1) else iprop(emp)

/-- Starting a copy: the packed chunk goes into the neighbour's slot, and the debt of this copy is paid. -/
theorem wp_start (κs κr : ℕ) (c n : Dev nD) (d b : Fin 2) (u : ℕ) (hu : u < 6) (hn : n = nb d c) (hb : b = sl u)
    (hS : (sendM d).IsWhole) (hR : (recvM d).IsWhole) (O O' : CellTallies nD τ sig ℕ) (hO : O = O' + tallyAt (rCell (nb d c) d u) u N)
    (Q : PUnit → sProp 𝕄) :
    iprop(cellInv ER (sched A) κs (sCell c d u) ∗ cellInv ER (sched A) κr (rCell (nb d c) d u)
        ∗ slotAt c (sendM d) (sl u) (msg A u d c) ∗ rider (nb d c) d u ∗ ride c d u ∗ owesAny c O
        ∗ dutyTok ER (sCell c d u) (u / 2) 0 ∗ reached ER (sCell c d u) (u / 2) ∗ dutyTok ER (rCell (nb d c) d u) (u / 2) 0)
      ⊢ iprop(((cred (tallyAt (sCell c d u) 0 N) ∗ owesAny c O') -∗ Q ⟨⟩)
          -∗ wpC c (startP cc0_scratch4 cc0_scratch5 (sendM d) (recvM d) hS hR d b n) Q) := by
  subst hn hb
  unfold startP rider slotAny slotAt owesAny owns
  simp only [semAt_send, semAt_recv, Prog.lift]
  iintro ⟨#HIs, #HIr, ⟨%fs, %hfs, Hs⟩, ⟨⟨%y, %fd, %hfd, Hd⟩, #Hrr⟩, Hride, ⟨%W, HO⟩, Hts, #Hrs, Htr⟩ Hk
  have hset : ∀ M : Memref sig .tc .vmem S2x512x1024 .bf16, (slotM M (sl u)).view.set = (slotW M (sl u)).view.set := fun M => View.set_reshape ..
  have hlt : u / 2 < 3 := by omega
  iapply (Rounds.wp_send_pointsTo_with 𝒱₀ ER (sched A) (c : Thread nD τ) none (κ₁ := κs) (κ₂ := κr)
      (c' := (nb d c : Thread nD τ)) (src := slotM (sendM d) (sl u)) (dst := slotM (recvM d) (sl u))
      (r₁ := u / 2) (r₂ := u / 2) (d₁ := 0) (d₂ := 0) (fs := fs) (fd := fd) (q := fullShare) (F := ride c d u)
      (by rw [duties_copy A c _ (by show 5 ≤ 5 + 2 * d.val + (sl u).val; omega) _ hlt]; exact Finset.mem_singleton_self _)
      (by rw [duties_copy A (nb d c) _ (by show 5 ≤ 9 + 2 * d.val + (sl u).val; omega) _ hlt]; exact Finset.mem_singleton_self _)
      u 0 N (show (slotM (recvM d) (sl u)).view.amount (.dma (rS d (sl u))) = N from credit_recv d (sl u)) (amount_copy A c 0 _ _) (amount_copy A (nb d c) 0 _ _) O' hO (W := W)
      (by
        rw [payload_send]; unfold slotAny slotAt
        rw [hset]
        iintro H; iexists _; unfold owns; iexists fs; isplitr
        · ipureintro; rfl
        · iexact H)
      (by
        rw [payload_recv]; unfold recvPay slotAt ride
        rw [fr_nb, hset]
        refine sep_mono_left ?_
        iintro H; unfold owns; iexists _; isplitr
        · ipureintro; exact (landed_read (sendM d) (recvM d) (sl u) fd fs).trans hfs
        · iexact H)) $$ [Hs Hd Hride HO Hts Htr]
  · isplitr; · iexact HIs
    isplitr; · iexact HIr
    isplitl [Hs]; · rw [hset]; iexact Hs
    isplitl [Hd Hride]
    · isplitl [Hd]
      · rw [hset]; iexact Hd
      · iexact Hride
    isplitl [HO]; · iexact HO
    isplitl [Hts]; · iexact Hts
    isplitr; · iexact Hrs
    isplitl [Htr]; · iexact Htr
    iexact Hrr
  iintro ⟨Hc, HO⟩
  iapply wpC_ret
  iapply Hk
  isplitl [Hc]; · iexact Hc
  iexists W; iexact HO

/-- A wait on a copy's cell. -/
theorem wp_wait_copy (κ : ℕ) (c : Dev nD) (q : DmaSem sig) (hq : 5 ≤ q.val) (r : ℕ) (hr : r < 3) (ι n : ℕ) (hι : ι < 6) (hn : n ≤ 6)
    (hlv : lv ((c : Thread nD τ), .dma q) ι + n < 8)
    {src dst : Memref sig .tc .vmem S512x1024 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(cellInv ER (sched A) κ ((c : Thread nD τ), .dma q) ∗ levAts L lv ∗ cred (tallyAt ((c : Thread nD τ), SemLoc.dma q) ι N) ∗ owesAny c (Ow c n)
        ∗ atPos ER ((c : Thread nD τ), .dma q) r ∅ 0)
      ⊢ iprop(((owesAny c (Ow c n) ∗ atPos ER ((c : Thread nD τ), .dma q) (r + 1) ∅ 0 ∗ reached ER ((c : Thread nD τ), .dma q) (r + 1)
            ∗ (sched A).payload ((c : Thread nD τ), .dma q) r 0) -∗ wpC c (k ⟨⟩) Q)
          -∗ wpC c (.op (.waitDma2 q src dst hsrc hdst) k) Q) := by
  unfold owesAny
  iintro ⟨#HI, #Hlev, Hc, ⟨%W, HO⟩, Hat⟩ Hk
  iapply (Rounds.wp_wait_rest_token 𝒱₀ ER (sched A) (c : Thread nD τ) none (κ := κ)
      (wpE_waitDma2_eq 𝒱₀ (c : Thread nD τ) none Set.univ) (Set.mem_univ _) ι (O := Ow c n) (W := W) (R := r) (m := 0) (T := ∅)
      (by rw [Nat.zero_add, hN, expect_copy A c q hq r hr])) $$ [Hc HO Hat]
  · isplitr; · iexact HI
    isplitl [Hc]; · iexact Hc
    isplitl [HO]; · iexact HO
    isplitr; · iapply (mayWait_steps c (.dma q) ι hι n hn hlv); iexact Hlev
    iexact Hat
  iintro ⟨HO, Hat, Hre, Hpay⟩
  iapply Hk
  isplitl [HO]; · iexists _; iexact HO
  isplitl [Hat]; · iexact Hat
  isplitl [Hre]; · iexact Hre
  iapply (Entails.of_eq (rest_copy A c q hq r hr)); iexact Hpay

/-- The two waits of a step in one direction. -/
theorem wp_await (κs κr : ℕ) (c : Dev nD) (d b : Fin 2) (u : ℕ) (hu : u < 6) (hb : b = sl u) (hS : (sendM d).IsWhole) (hR : (recvM d).IsWhole)
    (n : ℕ) (hn : u + n < 6) (Q : PUnit → sProp 𝕄) :
    iprop(cellInv ER (sched A) κs (sCell c d u) ∗ cellInv ER (sched A) κr (rCell c d u) ∗ levAts L lv
        ∗ cred (tallyAt (sCell c d u) 0 N) ∗ cred (tallyAt (rCell c d u) u N) ∗ owesAny c (Ow c n)
        ∗ atPos ER (sCell c d u) (u / 2) ∅ 0 ∗ atPos ER (rCell c d u) (u / 2) ∅ 0)
      ⊢ iprop(((owesAny c (Ow c n) ∗ (atPos ER (sCell c d u) (u / 2 + 1) ∅ 0 ∗ reached ER (sCell c d u) (u / 2 + 1) ∗ slotAny c (sendM d) (sl u))
            ∗ (atPos ER (rCell c d u) (u / 2 + 1) ∅ 0 ∗ reached ER (rCell c d u) (u / 2 + 1) ∗ recvPay A c d u)) -∗ Q ⟨⟩)
          -∗ wpC c (awaitP cc0_scratch4 cc0_scratch5 (sendM d) (recvM d) hS hR d b) Q) := by
  subst hb
  unfold awaitP
  simp only [semAt_send, semAt_recv, Prog.lift, Prog.bind_op, Prog.bind_ret, Prog.pure_eq_ret]
  have hlt : u / 2 < 3 := by omega
  have h5 : 5 ≤ (sS d (sl u)).val := by show 5 ≤ 5 + 2 * d.val + (sl u).val; omega
  have h5' : 5 ≤ (rS d (sl u)).val := by show 5 ≤ 9 + 2 * d.val + (sl u).val; omega
  have h9 : ¬ 9 ≤ (sS d (sl u)).val := by have := d.isLt; have := (sl u).isLt; show ¬ 9 ≤ 5 + 2 * d.val + (sl u).val; omega
  iintro ⟨#HIs, #HIr, #Hlev, Hcs, Hcr, HO, Has, Har⟩ Hk
  iapply (wp_wait_copy A κs c (sS d (sl u)) h5 (u / 2) hlt 0 n (by decide) (by omega)
      (by dsimp only [lv]; rw [if_neg h9]; omega) (credit_send d (sl u))) $$ [Hcs HO Has]
  · isplitr; · iexact HIs
    isplitr; · iexact Hlev
    isplitl [Hcs]; · iexact Hcs
    isplitl [HO]; · iexact HO
    iexact Has
  iintro ⟨HO, Has, Hrs, Hps⟩
  iapply (wp_wait_copy A κr c (rS d (sl u)) h5' (u / 2) hlt u n hu (by omega)
      (by have := lv_recv c d u u; rw [this]; omega) (credit_recv d (sl u))) $$ [Hcr HO Har]
  · isplitr; · iexact HIr
    isplitr; · iexact Hlev
    isplitl [Hcr]; · iexact Hcr
    isplitl [HO]; · iexact HO
    iexact Har
  iintro ⟨HO, Har, Hrr, Hpr⟩
  iapply wpC_ret
  iapply Hk
  isplitl [HO]; · iexact HO
  isplitl [Has Hrs Hps]
  · isplitl [Has]; · iexact Has
    isplitl [Hrs]; · iexact Hrs
    iapply (Entails.of_eq (payload_send A c d u 0)); iexact Hps
  · isplitl [Har]; · iexact Har
    isplitl [Hrr]; · iexact Hrr
    iapply (Entails.of_eq (payload_recv A c d u 0)); iexact Hpr

end Copy

end Cert.KernelIdeal.Pf

end
-- ==== Proof.Comm.lean ====
/-
# The whole exchange of one device

The state of a device between two steps, the rule for one step from state to state, the barrier before the first step,
and the six steps in a row, at whose end every semaphore is back at zero.
-/
module

public import proofs.«01_k».proof.Proof.Step

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The nine cells of a device -/

/-- The exchange's semaphores: four of sent copies, four of landed ones, the barrier. -/
def csem (k : Fin 9) : SemLoc sig := if h : k.val < 8 then .dma ⟨5 + k.val, by show _ < 13; omega⟩ else .reg barrier0

/-- The cell of a device and one of its nine semaphores. -/
abbrev kcell (ck : Dev nD × Fin 9) : GSem nD τ sig := ((ck.1 : Thread nD τ), csem ck.2)

/-- The number of a send semaphore among the nine. -/
def kS (d b : Fin 2) : Fin 9 := ⟨2 * d.val + b.val, by have := d.isLt; have := b.isLt; omega⟩
/-- The number of a receive semaphore among the nine. -/
def kR (d b : Fin 2) : Fin 9 := ⟨4 + 2 * d.val + b.val, by have := d.isLt; have := b.isLt; omega⟩

theorem csem_kS (d b : Fin 2) : csem (kS d b) = .dma (sS d b) := by fin_cases d <;> fin_cases b <;> rfl
theorem csem_kR (d b : Fin 2) : csem (kR d b) = .dma (rS d b) := by fin_cases d <;> fin_cases b <;> rfl
theorem csem_bar : csem 8 = .reg barrier0 := rfl

section Recs

variable (A : Dev nD → OutV F) (K : Dev nD × Fin 9 → ℕ)

/-- Every cell of every device follows the schedule, and has reached its first round. -/
def recs : sProp 𝕄 :=
  bigSep Finset.univ fun ck : Dev nD × Fin 9 => iprop(cellInv ER (sched A) (K ck) (kcell ck) ∗ reached ER (kcell ck) 0)

instance recs_persistent : BI.Persistent (recs A K) := by unfold recs; infer_instance

theorem recs_at (ck : Dev nD × Fin 9) : recs A K ⊢ iprop(cellInv ER (sched A) (K ck) (kcell ck) ∗ reached ER (kcell ck) 0) := by
  unfold recs
  exact BI.bigSep_elim (Finset.mem_univ ck)

theorem recs_send (c : Dev nD) (d : Fin 2) (u : ℕ) :
    recs A K ⊢ iprop(cellInv ER (sched A) (K (c, kS d (sl u))) (sCell c d u) ∗ reached ER (sCell c d u) 0) := by
  have h := recs_at A K (c, kS d (sl u))
  unfold kcell at h
  rwa [csem_kS] at h

theorem recs_recv (c : Dev nD) (d : Fin 2) (u : ℕ) :
    recs A K ⊢ iprop(cellInv ER (sched A) (K (c, kR d (sl u))) (rCell c d u) ∗ reached ER (rCell c d u) 0) := by
  have h := recs_at A K (c, kR d (sl u))
  unfold kcell at h
  rwa [csem_kR] at h

theorem recs_bar (c : Dev nD) :
    recs A K ⊢ iprop(cellInv ER (sched A) (K (c, 8)) (bCell c) ∗ reached ER (bCell c) 0) := recs_at A K (c, 8)

end Recs

/-! ## The state between steps -/

/-- A device's own place at the cells of step `u`, and its send slot of that step. -/
def Pos (c : Dev nD) (d : Fin 2) (u : ℕ) : sProp 𝕄 :=
  iprop(atPos ER (sCell c d u) (u / 2) ∅ 0 ∗ reached ER (sCell c d u) (u / 2) ∗ atPos ER (rCell c d u) (u / 2) ∅ 0 ∗ slotAny (F := F) c (sendM d) (sl u))

/-- The leave a device holds, before step `t`, to write its neighbour's slots. -/
def Rid (c : Dev nD) (d : Fin 2) (t : ℕ) : sProp 𝕄 :=
  if t = 0 then iprop(rider (F := F) (nb d c) d 0 ∗ rider (nb d c) d 1) else if t < 6 then rider (nb d c) d t else iprop(emp)

/-- The receive slots of its own a device holds before step `t`. -/
def Held (c : Dev nD) (d : Fin 2) (t : ℕ) : sProp 𝕄 :=
  if t = 0 then iprop(emp) else if t < 6 then rider (F := F) c d (t + 1) else iprop(rider (F := F) c d 6 ∗ rider c d 7)

/-- What step `u` uses up in direction `d`: the credit of the landing copy and the right to make both credits of one's own. -/
def stepRes (c : Dev nD) (d : Fin 2) (u : ℕ) : sProp 𝕄 :=
  iprop(cred (tallyAt (rCell c d u) u N) ∗ dutyTok ER (rCell (nb d c) d u) (u / 2) 0 ∗ dutyTok ER (sCell c d u) (u / 2) 0)

/-- The same of all of the last `n` steps. -/
def stepsLeft (c : Dev nD) : ℕ → sProp 𝕄
  | 0 => iprop(emp)
  | n + 1 => iprop(stepRes (F := F) c 0 (5 - n) ∗ stepRes c 1 (5 - n) ∗ stepsLeft c n)

/-- The state of device `c` before step `t`. -/
def St (A : Dev nD → OutV F) (c : Dev nD) (t : ℕ) : sProp 𝕄 :=
  iprop(owesAny c (Ow c (6 - t)) ∗ outP c (outS A t c) ∗ (Pos c 0 t ∗ Pos c 1 t) ∗ (Pos c 0 (t + 1) ∗ Pos c 1 (t + 1))
    ∗ (Rid c 0 t ∗ Rid c 1 t) ∗ (Held c 0 t ∗ Held c 1 t) ∗ stepsLeft c (6 - t))

section Shares

variable (c : Dev nD) (d : Fin 2) (t : ℕ)

theorem Rid_split (ht : t < 6) : Rid (F := F) c d t ⊢ iprop(rider (nb d c) d t ∗ if t = 0 then rider (nb d c) d 1 else emp) := by
  unfold Rid
  by_cases h : t = 0
  · subst h; rw [if_pos rfl, if_pos rfl]
  · rw [if_neg h, if_neg h, if_pos ht]
    iintro H; isplitl [H]
    · iexact H
    · iempintro

theorem Rid_join (ht : t < 6) :
    iprop((if t = 0 then rider (nb d c) d 1 else emp) ∗ (if 1 ≤ t ∧ t ≤ 4 then rider (nb d c) d (t + 1) else emp)) ⊢ Rid (F := F) c d (t + 1) := by
  unfold Rid
  by_cases h : t = 0
  · subst h
    rw [if_pos rfl, if_neg (by omega), if_neg (by omega), if_pos (by omega)]
    iintro ⟨H, -⟩; iexact H
  · by_cases h5 : t = 5
    · subst h5
      rw [if_neg (by omega), if_neg (by omega), if_neg (by omega), if_neg (by omega)]
      iintro ⟨H, -⟩; iexact H
    · rw [if_neg h, if_pos (by omega), if_neg (by omega), if_pos (by omega)]
      iintro ⟨-, H⟩; iexact H

theorem Held_split (e : Fin 2) (he : e = 1 - d) (ht : t < 6) :
    Held (F := F) c d t ⊢ iprop(ride c e t ∗ if t = 5 then rider c d 6 else emp) := by
  subst he
  unfold Held ride
  rw [sub_sub_dir]
  by_cases h : t = 0
  · subst h
    rw [if_pos rfl, if_neg (by omega), if_neg (by omega)]
    iintro H; isplitl [H]
    · iexact H
    · iempintro
  · by_cases h5 : t = 5
    · subst h5
      rw [if_neg (by omega), if_pos (by omega), if_neg (by omega), if_pos rfl]
      iintro H; isplitr
      · iempintro
      · iexact H
    · rw [if_neg h, if_pos (by omega), if_pos (by omega), if_neg h5]
      iintro H; isplitl [H]
      · iexact H
      · iempintro

theorem Held_join (ht : t < 6) : iprop((if t = 5 then rider c d 6 else emp) ∗ rider c d (t + 2)) ⊢ Held (F := F) c d (t + 1) := by
  unfold Held
  by_cases h5 : t = 5
  · subst h5
    rw [if_pos rfl, if_neg (by omega), if_neg (by omega)]
  · rw [if_neg h5, if_neg (by omega), if_pos (by omega)]
    iintro ⟨-, H⟩; iexact H

theorem sl_two : sl (t + 2) = sl t := Fin.ext (by show (t + 2) % 2 = t % 2; omega)
theorem sCell_two : sCell c d (t + 2) = sCell c d t := by unfold sCell; rw [sl_two]
theorem rCell_two : rCell c d (t + 2) = rCell c d t := by unfold rCell; rw [sl_two]

theorem Pos_open : Pos (F := F) c d t ⊢ iprop(atPos ER (sCell c d t) (t / 2) ∅ 0 ∗ reached ER (sCell c d t) (t / 2)
    ∗ atPos ER (rCell c d t) (t / 2) ∅ 0 ∗ slotAny (F := F) c (sendM d) (sl t)) := Entails.of_eq rfl
theorem stepRes_open : stepRes (F := F) c d t ⊢ iprop(cred (tallyAt (rCell c d t) t N) ∗ dutyTok ER (rCell (nb d c) d t) (t / 2) 0
    ∗ dutyTok ER (sCell c d t) (t / 2) 0) := Entails.of_eq rfl
theorem stepsLeft_succ (n : ℕ) : stepsLeft (F := F) c (n + 1) = iprop(stepRes (F := F) c 0 (5 - n) ∗ stepRes c 1 (5 - n) ∗ stepsLeft c n) := rfl
theorem Ow_succ (n : ℕ) : Ow c (n + 1) = Ow c n + tallyAt (rCell (nb 1 c) 1 (5 - n)) (5 - n) N + tallyAt (rCell (nb 0 c) 0 (5 - n)) (5 - n) N := rfl

/-- After the waits of step `t` the device stands at the cells of step `t + 2`. -/
theorem Pos_next :
    iprop(atPos ER (sCell c d t) (t / 2 + 1) ∅ 0 ∗ reached ER (sCell c d t) (t / 2 + 1) ∗ atPos ER (rCell c d t) (t / 2 + 1) ∅ 0 ∗ slotAny (F := F) c (sendM d) (sl t))
      ⊢ Pos c d (t + 2) := by
  unfold Pos
  rw [sCell_two, rCell_two, sl_two, show (t + 2) / 2 = t / 2 + 1 by omega]

/-- A receive slot taken in is free for step `t + 2`. -/
theorem rider_next (y : Vec F S1x512x1024 .bf16) :
    iprop(slotAt c (recvM d) (sl t) y ∗ reached ER (rCell c d t) (t / 2 + 1)) ⊢ rider (F := F) c d (t + 2) := by
  unfold rider slotAny
  rw [rCell_two, sl_two, show (t + 2) / 2 = t / 2 + 1 by omega]
  iintro ⟨H, Hr⟩
  isplitl [H]
  · iexists y; iexact H
  · iexact Hr

end Shares

theorem wpC_bind {α β : Type} (c : Dev nD) (p : Prog (TpuEff nD τ sig (Elt F) Λ₀ .tc) α) (k : α → Prog (TpuEff nD τ sig (Elt F) Λ₀ .tc) β) (Q : β → sProp 𝕄) :
    wpC c (p >>= k) Q = wpC c p (fun a => wpC c (k a) Q) := wp_bind ..

section Exchange

variable (A : Dev nD → OutV F) (K : Dev nD × Fin 9 → ℕ) (c : Dev nD)

abbrev isW (b : Ref sig .tc) : (Memref.whole b).IsWhole := Memref.isWhole_whole _

/-- One step, from the state before it to the state after. -/
theorem wp_step (rs : Bool) (t : ℕ) (ht : t < 6) (hrs : rs = decide (t < 3)) (b : Fin 2) (hb : b = sl t)
    (o₁ o₂ o₃ o₄ : Fin 2 → Nat) (i₁ : Inb o₁) (i₂ : Inb o₂) (i₃ : Inb o₃) (i₄ : Inb o₄)
    (e₁ : o₁ = coff t 0 c) (e₂ : o₂ = coff t 1 c) (e₃ : o₃ = coff (t + 1) 0 c) (e₄ : o₄ = coff (t + 1) 1 c)
    (n p : Dev nD) (hn : n = nb 0 c) (hp : p = nb 1 c) (Q : PUnit → sProp 𝕄) :
    iprop(recs A K ∗ levAts L lv ∗ St A c t) ⊢ iprop((St A c (t + 1) -∗ Q ⟨⟩)
      -∗ wpC c (stepP oM (sendM 0) (isW _) (sendM 1) (isW _) (recvM 0) (isW _) (recvM 1) (isW _) cc0_scratch4 cc0_scratch5 rs b
          o₁ o₂ o₃ o₄ i₁ i₂ i₃ i₄ n p) Q) := by
  obtain ⟨k, hk⟩ : ∃ k, 6 - t = k + 1 := ⟨5 - t, by omega⟩
  have hk' : 5 - k = t := by omega
  have hk'' : 6 - (t + 1) = k := by omega
  unfold St stepP
  rw [hk, hk'']
  simp only [wpC_bind]
  rw [stepsLeft_succ, Ow_succ, hk']
  iintro ⟨#Hrec, #Hlev, HO, Hout, ⟨HP0, HP1⟩, HPn, ⟨HR0, HR1⟩, ⟨HH0, HH1⟩, Hs0, Hs1, Hleft⟩ Hk
  ihave #⟨HIs0, -⟩ := (recs_send A K c 0 t) $$ Hrec
  ihave #⟨HIs1, -⟩ := (recs_send A K c 1 t) $$ Hrec
  ihave #⟨HIr0, -⟩ := (recs_recv A K c 0 t) $$ Hrec
  ihave #⟨HIr1, -⟩ := (recs_recv A K c 1 t) $$ Hrec
  ihave #⟨HIn0, -⟩ := (recs_recv A K (nb 0 c) 0 t) $$ Hrec
  ihave #⟨HIn1, -⟩ := (recs_recv A K (nb 1 c) 1 t) $$ Hrec
  ihave ⟨HR0, HR0'⟩ := (Rid_split c 0 t ht) $$ HR0
  ihave ⟨HR1, HR1'⟩ := (Rid_split c 1 t ht) $$ HR1
  ihave ⟨HH0, HH0'⟩ := (Held_split c 0 t 1 (by decide) ht) $$ HH0
  ihave ⟨HH1, HH1'⟩ := (Held_split c 1 t 0 (by decide) ht) $$ HH1
  ihave ⟨Has0, #Hrs0, Har0, Hsl0⟩ := (Pos_open c 0 t) $$ HP0
  ihave ⟨Has1, #Hrs1, Har1, Hsl1⟩ := (Pos_open c 1 t) $$ HP1
  ihave ⟨Hc0, Htr0, Hts0⟩ := (stepRes_open c 0 t) $$ Hs0
  ihave ⟨Hc1, Htr1, Hts1⟩ := (stepRes_open c 1 t) $$ Hs1
  -- both chunks packed
  subst hb
  iapply (wp_pack c 0 (sl t) t (outS A t c) (sendM 0) _ o₁ i₁ e₁) $$ [Hout Hsl0]
  · isplitl [Hout]; · iexact Hout
    iexact Hsl0
  iintro ⟨Hout, Hsl0⟩
  iapply (wp_pack c 1 (sl t) t (outS A t c) (sendM 1) _ o₂ i₂ e₂) $$ [Hout Hsl1]
  · isplitl [Hout]; · iexact Hout
    iexact Hsl1
  iintro ⟨Hout, Hsl1⟩
  -- both copies started
  iapply (wp_start A (K (c, kS 0 (sl t))) (K (nb 0 c, kR 0 (sl t))) c n 0 (sl t) t ht hn rfl _ _ _ (Ow c k + tallyAt (rCell (nb 1 c) 1 t) t N) rfl)
    $$ [Hsl0 HR0 HH1 HO Hts0 Htr0]
  · isplitr; · iexact HIs0
    isplitr; · iexact HIn0
    isplitl [Hsl0]; · iexact Hsl0
    isplitl [HR0]; · iexact HR0
    isplitl [HH1]; · iexact HH1
    isplitl [HO]; · iexact HO
    isplitl [Hts0]; · iexact Hts0
    isplitr; · iexact Hrs0
    iexact Htr0
  iintro ⟨Hcs0, HO⟩
  iapply (wp_start A (K (c, kS 1 (sl t))) (K (nb 1 c, kR 1 (sl t))) c p 1 (sl t) t ht hp rfl _ _ _ (Ow c k) rfl)
    $$ [Hsl1 HR1 HH0 HO Hts1 Htr1]
  · isplitr; · iexact HIs1
    isplitr; · iexact HIn1
    isplitl [Hsl1]; · iexact Hsl1
    isplitl [HR1]; · iexact HR1
    isplitl [HH0]; · iexact HH0
    isplitl [HO]; · iexact HO
    isplitl [Hts1]; · iexact Hts1
    isplitr; · iexact Hrs1
    iexact Htr1
  iintro ⟨Hcs1, HO⟩
  -- the four waits
  iapply (wp_await A (K (c, kS 0 (sl t))) (K (c, kR 0 (sl t))) c 0 (sl t) t ht rfl _ _ k (by omega)) $$ [Hcs0 Hc0 HO Has0 Har0]
  · isplitr; · iexact HIs0
    isplitr; · iexact HIr0
    isplitr; · iexact Hlev
    isplitl [Hcs0]; · iexact Hcs0
    isplitl [Hc0]; · iexact Hc0
    isplitl [HO]; · iexact HO
    isplitl [Has0]; · iexact Has0
    iexact Har0
  iintro ⟨HO, ⟨Has0, Hrs0', Hsl0⟩, Har0, #Hrr0, Hp0⟩
  iapply (wp_await A (K (c, kS 1 (sl t))) (K (c, kR 1 (sl t))) c 1 (sl t) t ht rfl _ _ k (by omega)) $$ [Hcs1 Hc1 HO Has1 Har1]
  · isplitr; · iexact HIs1
    isplitr; · iexact HIr1
    isplitr; · iexact Hlev
    isplitl [Hcs1]; · iexact Hcs1
    isplitl [Hc1]; · iexact Hc1
    isplitl [HO]; · iexact HO
    isplitl [Has1]; · iexact Has1
    iexact Har1
  iintro ⟨HO, ⟨Has1, Hrs1', Hsl1⟩, Har1, #Hrr1, Hp1⟩
  unfold recvPay
  icases Hp0 with ⟨Hy0, Hg1⟩
  icases Hp1 with ⟨Hy1, Hg0⟩
  -- both landed chunks taken in
  iapply (wp_take c 0 (sl t) t (outS A t c) rs hrs (recvM 0) (msg A t 0 (fr 0 c)) o₃ i₃ e₃) $$ [Hout Hy0]
  · isplitl [Hout]; · iexact Hout
    iexact Hy0
  iintro ⟨Hout, Hy0⟩
  iapply (wp_take c 1 (sl t) t _ rs hrs (recvM 1) (msg A t 1 (fr 1 c)) o₄ i₄ e₄) $$ [Hout Hy1]
  · isplitl [Hout]; · iexact Hout
    iexact Hy1
  iintro ⟨Hout, Hy1⟩
  iapply Hk
  isplitl [HO]; · iexact HO
  isplitl [Hout]; · rw [outS_succ]; iexact Hout
  isplitl [HPn]; · iexact HPn
  isplitl [Has0 Hrs0' Har0 Hsl0 Has1 Hrs1' Har1 Hsl1]
  · isplitl [Has0 Hrs0' Har0 Hsl0]
    · iapply (Pos_next c 0 t)
      isplitl [Has0]; · iexact Has0
      isplitl [Hrs0']; · iexact Hrs0'
      isplitl [Har0]; · iexact Har0
      iexact Hsl0
    · iapply (Pos_next c 1 t)
      isplitl [Has1]; · iexact Has1
      isplitl [Hrs1']; · iexact Hrs1'
      isplitl [Har1]; · iexact Har1
      iexact Hsl1
  isplitl [HR0' Hg0 HR1' Hg1]
  · isplitl [HR0' Hg0]
    · iapply (Rid_join c 0 t ht)
      isplitl [HR0']; · iexact HR0'
      iexact Hg0
    · iapply (Rid_join c 1 t ht)
      isplitl [HR1']; · iexact HR1'
      iexact Hg1
  isplitl [HH0' Hy0 HH1' Hy1]
  · isplitl [HH0' Hy0]
    · iapply (Held_join c 0 t ht)
      isplitl [HH0']; · iexact HH0'
      iapply (rider_next c 0 t _)
      isplitl [Hy0]; · iexact Hy0
      iexact Hrr0
    · iapply (Held_join c 1 t ht)
      isplitl [HH1']; · iexact HH1'
      iapply (rider_next c 1 t _)
      isplitl [Hy1]; · iexact Hy1
      iexact Hrr1
  iexact Hleft

end Exchange

end Cert.KernelIdeal.Pf

end
-- ==== Proof.Exchange.lean ====
/-
# The exchange from barrier to end

The printed offsets and device numbers in closed form, the communication buffers split into slots and joined again, the
barrier, and the six steps run one after another.
-/
module

public import proofs.«01_k».proof.Proof.Comm

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Offsets and device numbers -/

/-- The printed chunk offsets while reducing are those of steps 0, 1 and 2. -/
theorem off_rs (s : Fin 3) (c : Dev nD) :
    k0_off1 c (BitVec.ofNat 32 s.val) = coff s.val 0 c ∧ k0_off2 c (BitVec.ofNat 32 s.val) = coff s.val 1 c
      ∧ k0_off3 c (BitVec.ofNat 32 s.val) = coff (s.val + 1) 0 c ∧ k0_off4 c (BitVec.ofNat 32 s.val) = coff (s.val + 1) 1 c := by
  revert s c; decide

/-- The printed chunk offsets while gathering are those of steps 3, 4 and 5. -/
theorem off_ag (s : Fin 3) (c : Dev nD) :
    k0_off5 c (BitVec.ofNat 32 s.val) = coff (s.val + 3) 0 c ∧ k0_off6 c (BitVec.ofNat 32 s.val) = coff (s.val + 3) 1 c
      ∧ k0_off1 c (BitVec.ofNat 32 s.val) = coff (s.val + 4) 0 c ∧ k0_off2 c (BitVec.ofNat 32 s.val) = coff (s.val + 4) 1 c := by
  revert s c; decide

/-- Even-numbered device chains of the steps lead to the next device, odd-numbered ones to the previous. -/
theorem dev_nb (c : Dev nD) :
    (k0_dev1 c = (nb 1 c).val ∧ k0_dev2 c = (nb 0 c).val)
      ∧ (k0_dev3 c = (nb 0 c).val ∧ k0_dev4 c = (nb 1 c).val) ∧ (k0_dev5 c = (nb 0 c).val ∧ k0_dev6 c = (nb 1 c).val)
      ∧ (k0_dev7 c = (nb 0 c).val ∧ k0_dev8 c = (nb 1 c).val) ∧ (k0_dev9 c = (nb 0 c).val ∧ k0_dev10 c = (nb 1 c).val)
      ∧ (k0_dev11 c = (nb 0 c).val ∧ k0_dev12 c = (nb 1 c).val) ∧ (k0_dev13 c = (nb 0 c).val ∧ k0_dev14 c = (nb 1 c).val) := by
  revert c; decide

/-! ## Buffers as slots -/

/-- A whole communication buffer, holding anything. -/
def bufAny (c : Dev nD) (b : Ref sig .tc) : sProp 𝕄 := iprop(∃ f : Buf (Elt F) ((c : Thread nD τ).loc b), ((c : Thread nD τ).loc b) ↦{fullShare} f)

theorem slots_disjoint : Disjoint (slotR 0).set (slotR 1).set := Rect.unit_disjoint (0 : Fin 3) (.inl (by decide))

theorem slots_cover : (slotR 0).set ∪ (slotR 1).set = Finset.univ := by
  refine Finset.eq_univ_iff_forall.mpr fun x => ?_
  rw [Finset.mem_union, Rect.mem_set_unit, Rect.mem_set_unit]
  have h0 : (x 0 : Nat) < 2 := (x 0).isLt
  have h1 : (x 1 : Nat) < 512 := (x 1).isLt
  have h2 : (x 2 : Nat) < 1024 := (x 2).isLt
  by_cases h : (x 0 : Nat) = 0
  · left; intro a
    fin_cases a
    · show 0 ≤ (x 0 : Nat) ∧ (x 0 : Nat) < 0 + 1; omega
    · show 0 ≤ (x 1 : Nat) ∧ (x 1 : Nat) < 0 + 512; omega
    · show 0 ≤ (x 2 : Nat) ∧ (x 2 : Nat) < 0 + 1024; omega
  · right; intro a
    fin_cases a
    · show 1 ≤ (x 0 : Nat) ∧ (x 0 : Nat) < 1 + 1; omega
    · show 0 ≤ (x 1 : Nat) ∧ (x 1 : Nat) < 0 + 512; omega
    · show 0 ≤ (x 2 : Nat) ∧ (x 2 : Nat) < 0 + 1024; omega

section Bufs

variable (c : Dev nD) (M : Memref sig .tc .vmem S2x512x1024 .bf16)

theorem slots_set : M.view.set = (slotW M 0).view.set ∪ (slotW M 1).view.set := by
  show M.view.set = (M.view.slice (slotR 0)).set ∪ (M.view.slice (slotR 1)).set
  rw [View.set_slice, View.set_slice, ← Finset.map_union, slots_cover]
  rfl

theorem slots_apart : Disjoint (slotW M 0).view.set (slotW M 1).view.set := by
  show Disjoint (M.view.slice (slotR 0)).set (M.view.slice (slotR 1)).set
  rw [View.set_slice, View.set_slice]
  exact (Finset.disjoint_map _).mpr slots_disjoint

/-- A buffer is its two slots, -/
theorem slots_split : iprop(∃ f, M.view.loc (c : Thread nD τ) ↦[M.view.set]{fullShare} f) ⊢ iprop(slotAny (F := F) c M 0 ∗ slotAny c M 1) := by
  iintro ⟨%f, H⟩
  rw [slots_set M]
  ihave ⟨H0, H1⟩ := (pointsTo_union (slots_apart M)).1 $$ H
  unfold slotAny slotAt owns
  isplitl [H0]
  · iexists _, f; isplitr
    · ipureintro; rfl
    · iexact H0
  · iexists _, f; isplitr
    · ipureintro; rfl
    · iexact H1

/-- and two slots are the buffer. -/
theorem slots_join : iprop(slotAny (F := F) c M 0 ∗ slotAny c M 1) ⊢ iprop(∃ f, M.view.loc (c : Thread nD τ) ↦[M.view.set]{fullShare} f) := by
  unfold slotAny slotAt owns
  iintro ⟨⟨%y0, %f0, %e0, H0⟩, ⟨%y1, %f1, %e1, H1⟩⟩
  rw [slots_set M]
  iexists _
  iapply (pointsTo_join (slots_apart M))
  isplitl [H0]
  · iexact H0
  · iexact H1

end Bufs

theorem buf_whole (c : Dev nD) (b : Ref sig .tc) :
    bufAny (F := F) c b = iprop(∃ f, (Memref.whole b).view.loc (c : Thread nD τ) ↦[(Memref.whole b).view.set]{fullShare} f) := by
  unfold bufAny
  rw [Memref.view_whole, View.set_whole]

/-- The four communication buffers. -/
def bufs (c : Dev nD) : sProp 𝕄 :=
  iprop(bufAny (F := F) c cc0_scratch0 ∗ bufAny c cc0_scratch1 ∗ bufAny c cc0_scratch2 ∗ bufAny c cc0_scratch3)

theorem bufs_split (c : Dev nD) :
    bufs (F := F) c ⊢ iprop((slotAny c (sendM 0) 0 ∗ slotAny c (sendM 0) 1) ∗ (slotAny c (sendM 1) 0 ∗ slotAny c (sendM 1) 1)
      ∗ (slotAny c (recvM 0) 0 ∗ slotAny c (recvM 0) 1) ∗ (slotAny c (recvM 1) 0 ∗ slotAny c (recvM 1) 1)) := by
  unfold bufs
  rw [buf_whole, buf_whole, buf_whole, buf_whole]
  exact BIClass.sep_mono (slots_split c (sendM 0)) (BIClass.sep_mono (slots_split c (sendM 1)) (BIClass.sep_mono (slots_split c (recvM 0)) (slots_split c (recvM 1))))

theorem bufs_join (c : Dev nD) :
    iprop((slotAny c (sendM 0) 0 ∗ slotAny c (sendM 0) 1) ∗ (slotAny c (sendM 1) 0 ∗ slotAny c (sendM 1) 1)
      ∗ (slotAny c (recvM 0) 0 ∗ slotAny c (recvM 0) 1) ∗ (slotAny c (recvM 1) 0 ∗ slotAny c (recvM 1) 1)) ⊢ bufs (F := F) c := by
  unfold bufs
  rw [buf_whole, buf_whole, buf_whole, buf_whole]
  exact BIClass.sep_mono (slots_join c (sendM 0)) (BIClass.sep_mono (slots_join c (sendM 1)) (BIClass.sep_mono (slots_join c (recvM 0)) (slots_join c (recvM 1))))

theorem wpC_fupd (c : Dev nD) (p : Prog (TpuEff nD τ sig (Elt F) Λ₀ .tc) PUnit) (Q : PUnit → sProp 𝕄) :
    wpC c p (fun a => iprop(|={Set.univ}=> Q a)) ⊢ wpC c p Q := wp_fupd _ _ _ p Q

/-! ## The barrier and the six steps -/

/-- A device's own starting place at the cells of step `u` (`u < 2`). -/
def at0 (c : Dev nD) (d : Fin 2) (u : ℕ) : sProp 𝕄 := iprop(atPos ER (sCell c d u) 0 ∅ 0 ∗ atPos ER (rCell c d u) 0 ∅ 0)

/-- What a device holds of the exchange before it starts: its place at its nine cells, and what the barrier and the six steps
    use up. -/
def lin (c : Dev nD) : sProp 𝕄 :=
  iprop(atPos ER (bCell c) 0 ∅ 0 ∗ (at0 (F := F) c 0 0 ∗ at0 c 1 0) ∗ (at0 c 0 1 ∗ at0 c 1 1) ∗ stepsLeft c 6
    ∗ dutyTok ER (bCell (nb 1 c)) 0 0 ∗ dutyTok ER (bCell (nb 0 c)) 0 1 ∗ cred (tallyAt (bCell c) 0 2))

/-- The eight copy semaphores back at zero. -/
def semsD (c : Dev nD) : sProp 𝕄 :=
  iprop((semVal (sCell c 0 0) 0 ∗ semVal (sCell c 0 1) 0 ∗ semVal (sCell c 1 0) 0 ∗ semVal (sCell c 1 1) 0)
    ∗ (semVal (rCell c 0 0) 0 ∗ semVal (rCell c 0 1) 0 ∗ semVal (rCell c 1 0) 0 ∗ semVal (rCell c 1 1) 0))

section Whole

variable (A : Dev nD → OutV F) (K : Dev nD × Fin 9 → ℕ) (c : Dev nD)

/-- Both signals and the wait. -/
theorem wp_barrier (i : grid0.Coords) (h : k0_cond3 i = 1#1) (k : Prog (TpuEff nD τ sig (Elt F) Λ₀ .tc) PUnit) (Q : PUnit → sProp 𝕄) :
    iprop(recs A K ∗ levAts L lv ∗ owesAny c (O₀ c) ∗ lin c ∗ bufs c ∗ outP c (A c))
      ⊢ iprop(((St A c 0 ∗ atPos ER (bCell c) 1 ∅ 0) -∗ wpC c k Q)
          -∗ wpC c (do
              semSignalWord (⟨k0_dev1 c, k0_dev1_lt i c h⟩ : Dev nD) barrier0 1#32
              semSignalWord (⟨k0_dev2 c, k0_dev2_lt i c h⟩ : Dev nD) barrier0 1#32
              semWaitWord barrier0 2#32
              k) Q) := by
  have e1 : (⟨k0_dev1 c, k0_dev1_lt i c h⟩ : Dev nD) = nb 1 c := Fin.ext (dev_nb c).1.1
  have e2 : (⟨k0_dev2 c, k0_dev2_lt i c h⟩ : Dev nD) = nb 0 c := Fin.ext (dev_nb c).1.2
  rw [e1, e2]
  simp only [semSignalWord, semWaitWord, Prog.lift, Prog.bind_op, Prog.bind_ret, Prog.pure_eq_ret, Prog.bind_assoc]
  unfold owesAny lin at0
  iintro ⟨#Hrec, #Hlev, ⟨%W, HO⟩, ⟨HatB, ⟨⟨Hs00, Hr00⟩, ⟨Hs10, Hr10⟩⟩, ⟨⟨Hs01, Hr01⟩, ⟨Hs11, Hr11⟩⟩, Hleft, Ht0, Ht1, HcB⟩, Hb, Hout⟩ Hk
  ihave ⟨⟨HS00, HS01⟩, ⟨HS10, HS11⟩, ⟨HR00, HR01⟩, ⟨HR10, HR11⟩⟩ := (bufs_split c) $$ Hb
  ihave #⟨HIb, -⟩ := (recs_bar A K c) $$ Hrec
  ihave #⟨HIb1, Hrb1⟩ := (recs_bar A K (nb 1 c)) $$ Hrec
  ihave #⟨HIb0, Hrb0⟩ := (recs_bar A K (nb 0 c)) $$ Hrec
  ihave #⟨-, Hrs00⟩ := (recs_send A K c 0 0) $$ Hrec
  ihave #⟨-, Hrs01⟩ := (recs_send A K c 0 1) $$ Hrec
  ihave #⟨-, Hrs10⟩ := (recs_send A K c 1 0) $$ Hrec
  ihave #⟨-, Hrs11⟩ := (recs_send A K c 1 1) $$ Hrec
  ihave #⟨-, Hrr00⟩ := (recs_recv A K c 0 0) $$ Hrec
  ihave #⟨-, Hrr01⟩ := (recs_recv A K c 0 1) $$ Hrec
  ihave #⟨-, Hrr10⟩ := (recs_recv A K c 1 0) $$ Hrec
  ihave #⟨-, Hrr11⟩ := (recs_recv A K c 1 1) $$ Hrec
  unfold O₀
  iapply (Rounds.wp_signal 𝒱₀ ER (sched A) (c : Thread nD τ) none (dst := (nb 1 c : Thread nD τ)) (κ := K (nb 1 c, 8)) (r := 0)
      (d := 0) (by rw [duties_bar]; exact Finset.mem_univ _) ((amount_bar A (nb 1 c) 0 0).trans (by decide)) 0
      (Ow c 6 + tallyAt (bCell (nb 0 c)) 0 1) rfl) $$ [HO Ht0 HR00 HR01]
  · isplitr; · iexact HIb1
    isplitl [HO]; · iexact HO
    isplitl [Ht0]; · iexact Ht0
    isplitl [HR00 HR01]
    · rw [payload_bar]; unfold barPay rider
      rw [show nb 0 (nb 1 c) = c from nb_fr 0 c]
      isplitl [HR00]
      · isplitl [HR00]; · iexact HR00
        iexact Hrr00
      · isplitl [HR01]; · iexact HR01
        iexact Hrr01
    · iexact Hrb1
  iintro HO
  iapply (Rounds.wp_signal 𝒱₀ ER (sched A) (c : Thread nD τ) none (dst := (nb 0 c : Thread nD τ)) (κ := K (nb 0 c, 8)) (r := 0)
      (d := 1) (by rw [duties_bar]; exact Finset.mem_univ _) ((amount_bar A (nb 0 c) 1 0).trans (by decide)) 0
      (Ow c 6) rfl) $$ [HO Ht1 HR10 HR11]
  · isplitr; · iexact HIb0
    isplitl [HO]; · iexact HO
    isplitl [Ht1]; · iexact Ht1
    isplitl [HR10 HR11]
    · rw [payload_bar]; unfold barPay rider
      rw [show nb 1 (nb 0 c) = c from nb_fr 1 c]
      isplitl [HR10]
      · isplitl [HR10]; · iexact HR10
        iexact Hrr10
      · isplitl [HR11]; · iexact HR11
        iexact Hrr11
    · iexact Hrb0
  iintro HO
  iapply (Rounds.wp_wait_rest_token 𝒱₀ ER (sched A) (c : Thread nD τ) none (κ := K (c, 8))
      (wpE_semWait_eq 𝒱₀ (c : Thread nD τ) none Set.univ) (Set.mem_univ _) 0 (O := Ow c 6) (W := W) (R := 0) (m := 0) (T := ∅)
      (by rw [expect_bar]; decide)) $$ [HcB HO HatB]
  · isplitr; · iexact HIb
    isplitl [HcB]; · iexact HcB
    isplitl [HO]; · iexact HO
    isplitr; · iapply (mayWait_steps c (.reg barrier0) 0 (by decide) 6 (by decide) (by show 1 + 6 < 8; decide)); iexact Hlev
    iexact HatB
  iintro ⟨HO, HatB, -, Hpay⟩
  ihave Hp2 := (Entails.of_eq (rest_bar A c)) $$ Hpay
  icases Hp2 with ⟨Hp0, Hp1⟩
  iapply Hk
  isplitr [HatB]
  · unfold St Pos Rid Held barPay owesAny
    rw [if_pos rfl, if_pos rfl, if_pos rfl, if_pos rfl]
    isplitl [HO]; · iexists _; iexact HO
    isplitl [Hout]; · iexact Hout
    isplitl [Hs00 Hr00 HS00 Hs10 Hr10 HS10]
    · isplitl [Hs00 Hr00 HS00]
      · isplitl [Hs00]; · iexact Hs00
        isplitr; · iexact Hrs00
        isplitl [Hr00]; · iexact Hr00
        iexact HS00
      · isplitl [Hs10]; · iexact Hs10
        isplitr; · iexact Hrs10
        isplitl [Hr10]; · iexact Hr10
        iexact HS10
    isplitl [Hs01 Hr01 HS01 Hs11 Hr11 HS11]
    · isplitl [Hs01 Hr01 HS01]
      · isplitl [Hs01]; · iexact Hs01
        isplitr; · iexact Hrs01
        isplitl [Hr01]; · iexact Hr01
        iexact HS01
      · isplitl [Hs11]; · iexact Hs11
        isplitr; · iexact Hrs11
        isplitl [Hr11]; · iexact Hr11
        iexact HS11
    isplitl [Hp0 Hp1]
    · isplitl [Hp0]; · iexact Hp0
      iexact Hp1
    isplitr
    · isplitr <;> iempintro
    iexact Hleft
  · iexact HatB

/-- A copy cell all of whose three rounds are over is back at zero. -/
theorem close_send (d : Fin 2) (u : ℕ) : iprop(recs A K ∗ atPos ER (sCell c d u) 3 ∅ 0) ⊢ iprop(|={Set.univ}=> semVal (sCell c d u) 0) := by
  iintro ⟨#Hrec, H⟩
  ihave #⟨HI, -⟩ := (recs_send A K c d u) $$ Hrec
  iapply (Rounds.cell_close ER (sched A) (Set.mem_univ (K (c, kS d (sl u)))) (fun h => h) (R := 3) (duties_copy_later A c _))
  isplitr; · iexact HI
  iexact H

theorem close_recv (d : Fin 2) (u : ℕ) : iprop(recs A K ∗ atPos ER (rCell c d u) 3 ∅ 0) ⊢ iprop(|={Set.univ}=> semVal (rCell c d u) 0) := by
  iintro ⟨#Hrec, H⟩
  ihave #⟨HI, -⟩ := (recs_recv A K c d u) $$ Hrec
  iapply (Rounds.cell_close ER (sched A) (Set.mem_univ (K (c, kR d (sl u)))) (fun h => h) (R := 3) (duties_copy_later A c _))
  isplitr; · iexact HI
  iexact H

theorem close_bar : iprop(recs A K ∗ atPos ER (bCell c) 1 ∅ 0) ⊢ iprop(|={Set.univ}=> semVal (bCell c) 0) := by
  iintro ⟨#Hrec, H⟩
  ihave #⟨HI, -⟩ := (recs_bar A K c) $$ Hrec
  iapply (Rounds.cell_close ER (sched A) (Set.mem_univ (K (c, 8))) (fun h => h) (R := 1) (duties_bar_later A c))
  isplitr; · iexact HI
  iexact H

/-- After the last step: nothing owed, the whole buffers back, every semaphore at zero. -/
theorem finish :
    iprop(recs A K ∗ St A c 6 ∗ atPos ER (bCell c) 1 ∅ 0)
      ⊢ iprop(|={Set.univ}=> (owesAny c 0 ∗ outP c (outS A 6 c) ∗ bufs c ∗ semsD c ∗ semVal (bCell c) 0)) := by
  unfold St Held semsD
  rw [if_neg (by decide), if_neg (by decide), if_neg (by decide), if_neg (by decide)]
  iintro ⟨#Hrec, ⟨HO, Hout, ⟨HP00, HP10⟩, ⟨HP01, HP11⟩, -, ⟨⟨HH00, HH01⟩, ⟨HH10, HH11⟩⟩, -⟩, HB⟩
  ihave ⟨Hs00, -, Hr00, HS00⟩ := (Pos_open c 0 6) $$ HP00
  ihave ⟨Hs01, -, Hr01, HS01⟩ := (Pos_open c 0 7) $$ HP01
  ihave ⟨Hs10, -, Hr10, HS10⟩ := (Pos_open c 1 6) $$ HP10
  ihave ⟨Hs11, -, Hr11, HS11⟩ := (Pos_open c 1 7) $$ HP11
  unfold rider
  icases HH00 with ⟨HR00, -⟩
  icases HH01 with ⟨HR01, -⟩
  icases HH10 with ⟨HR10, -⟩
  icases HH11 with ⟨HR11, -⟩
  imod (close_send A K c 0 0) $$ [Hs00] with Z1
  · isplitr; · iexact Hrec
    iexact Hs00
  imod (close_send A K c 0 1) $$ [Hs01] with Z2
  · isplitr; · iexact Hrec
    iexact Hs01
  imod (close_send A K c 1 0) $$ [Hs10] with Z3
  · isplitr; · iexact Hrec
    iexact Hs10
  imod (close_send A K c 1 1) $$ [Hs11] with Z4
  · isplitr; · iexact Hrec
    iexact Hs11
  imod (close_recv A K c 0 0) $$ [Hr00] with Z5
  · isplitr; · iexact Hrec
    iexact Hr00
  imod (close_recv A K c 0 1) $$ [Hr01] with Z6
  · isplitr; · iexact Hrec
    iexact Hr01
  imod (close_recv A K c 1 0) $$ [Hr10] with Z7
  · isplitr; · iexact Hrec
    iexact Hr10
  imod (close_recv A K c 1 1) $$ [Hr11] with Z8
  · isplitr; · iexact Hrec
    iexact Hr11
  imod (close_bar A K c) $$ [HB] with Z9
  · isplitr; · iexact Hrec
    iexact HB
  imodintro
  isplitl [HO]; · iexact HO
  isplitl [Hout]; · iexact Hout
  isplitl [HS00 HS01 HS10 HS11 HR00 HR01 HR10 HR11]
  · iapply (bufs_join c)
    isplitl [HS00 HS01]
    · isplitl [HS00]; · iexact HS00
      iexact HS01
    isplitl [HS10 HS11]
    · isplitl [HS10]; · iexact HS10
      iexact HS11
    isplitl [HR00 HR01]
    · isplitl [HR00]; · iexact HR00
      iexact HR01
    isplitl [HR10]; · iexact HR10
    iexact HR11
  isplitr [Z9]
  · isplitl [Z1 Z2 Z3 Z4]
    · isplitl [Z1]; · iexact Z1
      isplitl [Z2]; · iexact Z2
      isplitl [Z3]; · iexact Z3
      iexact Z4
    · isplitl [Z5]; · iexact Z5
      isplitl [Z6]; · iexact Z6
      isplitl [Z7]; · iexact Z7
      iexact Z8
  · iexact Z9

/-- The whole exchange of one device: from its partial product in the output block to the exchanged block. -/
theorem wp_comm (i : grid0.Coords) (h : k0_cond3 i = 1#1) (Q : PUnit → sProp 𝕄) :
    iprop(recs A K ∗ levAts L lv ∗ owesAny c (O₀ c) ∗ lin c ∗ bufs c ∗ outP c (A c))
      ⊢ iprop(((owesAny c 0 ∗ outP c (outS A 6 c) ∗ bufs c ∗ semsD c ∗ semVal (bCell c) 0) -∗ Q ⟨⟩)
          -∗ wpC c (commP oM (sendM 0) (isW _) (sendM 1) (isW _) (recvM 0) (isW _) (recvM 1) (isW _) cc0_scratch4 cc0_scratch5 i h c) Q) := by
  have hd := dev_nb c
  unfold commP
  iintro ⟨#Hrec, #Hlev, H⟩ Hk
  iapply (wp_barrier A K c i h) $$ [H]
  · isplitr; · iexact Hrec
    isplitr; · iexact Hlev
    iexact H
  iintro ⟨HSt, HB⟩
  simp only [wpC_bind]
  iapply (wp_step A K c true 0 (by decide) rfl 0 rfl _ _ _ _ _ _ _ _ (off_rs 0 c).1 (off_rs 0 c).2.1 (off_rs 0 c).2.2.1 (off_rs 0 c).2.2.2
    _ _ (Fin.ext hd.2.1.1) (Fin.ext hd.2.1.2)) $$ [HSt]
  · isplitr; · iexact Hrec
    isplitr; · iexact Hlev
    iexact HSt
  iintro HSt
  iapply (wp_step A K c true 1 (by decide) rfl 1 rfl _ _ _ _ _ _ _ _ (off_rs 1 c).1 (off_rs 1 c).2.1 (off_rs 1 c).2.2.1 (off_rs 1 c).2.2.2
    _ _ (Fin.ext hd.2.2.1.1) (Fin.ext hd.2.2.1.2)) $$ [HSt]
  · isplitr; · iexact Hrec
    isplitr; · iexact Hlev
    iexact HSt
  iintro HSt
  iapply (wp_step A K c true 2 (by decide) rfl 0 rfl _ _ _ _ _ _ _ _ (off_rs 2 c).1 (off_rs 2 c).2.1 (off_rs 2 c).2.2.1 (off_rs 2 c).2.2.2
    _ _ (Fin.ext hd.2.2.2.1.1) (Fin.ext hd.2.2.2.1.2)) $$ [HSt]
  · isplitr; · iexact Hrec
    isplitr; · iexact Hlev
    iexact HSt
  iintro HSt
  iapply (wp_step A K c false 3 (by decide) rfl 1 rfl _ _ _ _ _ _ _ _ (off_ag 0 c).1 (off_ag 0 c).2.1 (off_ag 0 c).2.2.1 (off_ag 0 c).2.2.2
    _ _ (Fin.ext hd.2.2.2.2.1.1) (Fin.ext hd.2.2.2.2.1.2)) $$ [HSt]
  · isplitr; · iexact Hrec
    isplitr; · iexact Hlev
    iexact HSt
  iintro HSt
  iapply (wp_step A K c false 4 (by decide) rfl 0 rfl _ _ _ _ _ _ _ _ (off_ag 1 c).1 (off_ag 1 c).2.1 (off_ag 1 c).2.2.1 (off_ag 1 c).2.2.2
    _ _ (Fin.ext hd.2.2.2.2.2.1.1) (Fin.ext hd.2.2.2.2.2.1.2)) $$ [HSt]
  · isplitr; · iexact Hrec
    isplitr; · iexact Hlev
    iexact HSt
  iintro HSt
  iapply (wpC_fupd c _ Q)
  iapply (wp_step A K c false 5 (by decide) rfl 1 rfl _ _ _ _ _ _ _ _ (off_ag 2 c).1 (off_ag 2 c).2.1 (off_ag 2 c).2.2.1 (off_ag 2 c).2.2.2
    _ _ (Fin.ext hd.2.2.2.2.2.2.1) (Fin.ext hd.2.2.2.2.2.2.2)) $$ [HSt]
  · isplitr; · iexact Hrec
    isplitr; · iexact Hlev
    iexact HSt
  iintro HSt
  imod (finish A K c) $$ [HSt HB] with HF
  · isplitr; · iexact Hrec
    isplitl [HSt]; · iexact HSt
    iexact HB
  imodintro
  iapply Hk
  iexact HF

end Whole

end Cert.KernelIdeal.Pf

end
-- ==== Proof.Body.lean ====
/-
# One grid point

The output block after each grid point: the first point's product, then the running sum of products, and after the last
point the exchanged block. This module runs the kernel's body at a point of each kind.
-/
module

public import proofs.«01_k».proof.Proof.Exchange
public import proofs.«01_k».proof.Proof.Gen.KernelIdeal.Frame
public import Idealize.ShloMosaic.Lib.Pipeline.Value

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem hz : (![0, 0] : Fin 2 → Nat) = fun _ => 0 := funext fun a => by fin_cases a <;> rfl

/-- Reading the device's number gives the device. -/
theorem wpC_deviceId (c : Dev nD) {α : Type} (k : Dev nD → Prog (TpuEff nD τ sig (Elt F) Λ₀ .tc) α) (Q : α → sProp 𝕄) :
    wpC c (.op .deviceId k) Q = wpC c (k c) Q := by
  unfold wpC; rw [wp_deviceId]

/-! ## Whole loads and stores -/

section Whole

variable (c : Dev nD)

/-- A load of a whole input block reads what it holds. -/
theorem wp_in_load (a : Memref sig .tc .vmem S2048x512 .f32) (x : Vec F S2048x512 .f32) {hi} {hl : a.view.LoadsAt _} {α : Type}
    {k : Vec F S2048x512 .f32 → Prog (TpuEff nD τ sig (Elt F) Λ₀ .tc) α} {Q : α → sProp 𝕄} :
    owns (c : Thread nD τ) a fullShare x
      ⊢ iprop((owns (c : Thread nD τ) a fullShare x -∗ wpC c (k x) Q)
          -∗ wpC c (.op (.load a (Rect.unit (s := S2048x512) ![0, 0] S2048x512.size hi).toLoadRect hl) k) Q) := by
  unfold owns
  iintro ⟨%f, %hf, H⟩ Hk
  iapply (wp_load 𝒱₀ (c : Thread nD τ) none Set.univ (m := a) (a.view.setOn_subset_set _)) $$ H
  iintro H
  rw [View.readAt_eq_ld, hf, View.ld_unit_zero (S := S2048x512) hz]
  iapply Hk
  iexists f; isplitr
  · ipureintro; exact hf
  · iexact H

/-- A load of the whole output block reads what it holds. -/
theorem wp_out_load (f : OutV F) {hi} {hl : oM.view.LoadsAt _} {α : Type}
    {k : Vec F S2048x2048 .f32 → Prog (TpuEff nD τ sig (Elt F) Λ₀ .tc) α} {Q : α → sProp 𝕄} :
    outP c f ⊢ iprop((outP c f -∗ wpC c (k f) Q)
        -∗ wpC c (.op (.load oM (Rect.unit (s := S2048x2048) ![0, 0] S2048x2048.size hi).toLoadRect hl) k) Q) := by
  iintro H Hk
  iapply (wp_load 𝒱₀ (c : Thread nD τ) none Set.univ (m := oM) (S := Finset.univ) (Finset.subset_univ _)) $$ H
  iintro H
  rw [show oM.view.readAt (Elt F) (Rect.unit (s := S2048x2048) ![0, 0] S2048x2048.size hi).toLoadRect f = f from
    Memref.readAt_unit_zero (Elt F) cc0_stg2_0 hz hi f]
  iapply Hk
  iexact H

/-- A store of the whole output block leaves the stored value in it. -/
theorem wp_out_store (f w : OutV F) {hi} {hx : (oM.access (Rect.unit (s := S2048x2048) ![0, 0] S2048x2048.size hi)).Stores Finset.univ} {hm} {α : Type}
    {k : PUnit → Prog (TpuEff nD τ sig (Elt F) Λ₀ .tc) α} {Q : α → sProp 𝕄} :
    outP c f ⊢ iprop((outP c w -∗ wpC c (k ⟨⟩) Q)
        -∗ wpC c (.op (.store oM (Rect.unit (s := S2048x2048) ![0, 0] S2048x2048.size hi) w Finset.univ hx hm) k) Q) := by
  iintro H Hk
  iapply (wp_store 𝒱₀ (c : Thread nD τ) none Set.univ (m := oM) (r := Rect.unit (s := S2048x2048) ![0, 0] S2048x2048.size hi) (Mk := Finset.univ)
    (S := Finset.univ) (Finset.subset_univ _)) $$ H
  iintro H
  rw [show (oM.access (Rect.unit (s := S2048x2048) ![0, 0] S2048x2048.size hi) : View sig .tc _ _ _).write (Elt F) f w Finset.univ = w from
    Memref.write_access_unit_zero_univ (Elt F) cc0_stg2_0 hz hi f w]
  iapply Hk
  iexact H

end Whole

/-! ## The body at a point -/

section Body

variable (c : Dev nD) (i : grid0.Coords) (a1 : Memref sig .tc .vmem S2048x512 .f32) (h1 : a1.IsWhole) (a2 : Memref sig .tc .vmem S2048x512 .f32) (h2 : a2.IsWhole)

/-- The body on the output block and the four communication buffers. -/
abbrev bodyP : Prog (TpuEff nD τ sig (Elt F) Λ₀ .tc) PUnit :=
  cc0_body i a1 h1 a2 h2 oM (isW _) (sendM 0) (isW _) (sendM 1) (isW _) (recvM 0) (isW _) (recvM 1) (isW _) cc0_scratch4 cc0_scratch5

/-- The two input blocks. -/
abbrev ins (x w : Vec F S2048x512 .f32) : sProp 𝕄 :=
  iprop(owns (c : Thread nD τ) a1 fullShare x ∗ owns (c : Thread nD τ) a2 fullShare w)

/-- At the first point the body stores the product. -/
theorem wp_first (g1 : k0_cond1 i = 1#1) (g2 : ¬k0_cond2 i = 1#1) (g3 : ¬k0_cond3 i = 1#1) (x w : Vec F S2048x512 .f32) (f : OutV F) (Q : PUnit → sProp 𝕄) :
    iprop(ins c a1 a2 x w ∗ outP c f)
      ⊢ iprop(((ins c a1 a2 x w ∗ outP c (k0_pay1 x w)) -∗ Q ⟨⟩) -∗ wpC c (bodyP i a1 h1 a2 h2) Q) := by
  unfold bodyP
  simp only [cc0_body_eq_skeleton]; unfold cc0_body_skel
  simp only [dif_pos g1, dif_neg g2, dif_neg g3, Prog.lift, Prog.bind_op, Prog.bind_ret, Prog.pure_eq_ret, Prog.bind_assoc]
  iintro ⟨⟨Hx, Hw⟩, Ho⟩ Hk
  iapply (wp_in_load c a1 x) $$ Hx; iintro Hx
  iapply (wp_in_load c a2 w) $$ Hw; iintro Hw
  iapply (wp_out_load c f) $$ Ho; iintro Ho
  iapply (wp_out_store c f) $$ Ho; iintro Ho
  iapply wpC_ret
  iapply Hk
  isplitr [Ho]
  · isplitl [Hx]; · iexact Hx
    iexact Hw
  · iexact Ho

/-- At a middle point it adds the product to the block. -/
theorem wp_middle (g1 : ¬k0_cond1 i = 1#1) (g2 : k0_cond2 i = 1#1) (g3 : ¬k0_cond3 i = 1#1) (x w : Vec F S2048x512 .f32) (f : OutV F) (Q : PUnit → sProp 𝕄) :
    iprop(ins c a1 a2 x w ∗ outP c f)
      ⊢ iprop(((ins c a1 a2 x w ∗ outP c (k0_pay2 x w f)) -∗ Q ⟨⟩) -∗ wpC c (bodyP i a1 h1 a2 h2) Q) := by
  unfold bodyP
  simp only [cc0_body_eq_skeleton]; unfold cc0_body_skel
  simp only [dif_neg g1, dif_pos g2, dif_neg g3, Prog.lift, Prog.bind_op, Prog.bind_ret, Prog.pure_eq_ret, Prog.bind_assoc]
  iintro ⟨⟨Hx, Hw⟩, Ho⟩ Hk
  iapply (wp_in_load c a1 x) $$ Hx; iintro Hx
  iapply (wp_in_load c a2 w) $$ Hw; iintro Hw
  iapply (wp_out_load c f) $$ Ho; iintro Ho
  iapply (wp_out_load c f) $$ Ho; iintro Ho
  iapply (wp_out_store c f) $$ Ho; iintro Ho
  iapply wpC_ret
  iapply Hk
  isplitr [Ho]
  · isplitl [Hx]; · iexact Hx
    iexact Hw
  · iexact Ho

/-- The last point's body: the middle point's, then the exchange. -/
theorem last_eq (g1 : ¬k0_cond1 i = 1#1) (g2 : k0_cond2 i = 1#1) (g3 : k0_cond3 i = 1#1) :
    bodyP (F := F) i a1 h1 a2 h2 = (do
      let x : Vec F S2048x512 .f32 ← Prog.lift (.load a1 (Rect.unit (s := S2048x512) ![0, 0] S2048x512.size inb_S2048x512_S2048x512_0_0).toLoadRect (View.loadsAt_vmem h_S2048x512))
      let w : Vec F S2048x512 .f32 ← Prog.lift (.load a2 (Rect.unit (s := S2048x512) ![0, 0] S2048x512.size inb_S2048x512_S2048x512_0_0).toLoadRect (View.loadsAt_vmem h_S2048x512))
      let f : Vec F S2048x2048 .f32 ← Prog.lift (.load oM (Rect.unit (s := S2048x2048) ![0, 0] S2048x2048.size inb_S2048x2048_S2048x2048_0_0).toLoadRect (View.loadsAt_vmem h_S2048x2048))
      let _ : Vec F S2048x2048 .f32 ← Prog.lift (.load oM (Rect.unit (s := S2048x2048) ![0, 0] S2048x2048.size inb_S2048x2048_S2048x2048_0_0).toLoadRect (View.loadsAt_vmem h_S2048x2048))
      Prog.lift (.store oM (Rect.unit (s := S2048x2048) ![0, 0] S2048x2048.size inb_S2048x2048_S2048x2048_0_0) (k0_pay2 x w f) Finset.univ (View.stores_vmem_bits_univ h_S2048x2048 rfl) (.inl rfl))
      let c : Dev nD ← Prog.lift .deviceId
      commP oM (sendM 0) (isW _) (sendM 1) (isW _) (recvM 0) (isW _) (recvM 1) (isW _) cc0_scratch4 cc0_scratch5 i g3 c) := by
  unfold bodyP
  simp only [cc0_body_eq_skeleton]; unfold cc0_body_skel
  rw [← comm_eq i a1 h1 a2 h2 oM (isW _) (sendM 0) (isW _) (sendM 1) (isW _) (recvM 0) (isW _) (recvM 1) (isW _) cc0_scratch4 cc0_scratch5 g3]
  simp only [dif_neg g1, dif_pos g2, dif_pos g3, Prog.lift, Prog.bind_op, Prog.bind_ret, Prog.pure_eq_ret, Prog.bind_assoc]

/-- At the last point it adds the product and exchanges. -/
theorem wp_last (A : Dev nD → OutV F) (K : Dev nD × Fin 9 → ℕ)
    (g1 : ¬k0_cond1 i = 1#1) (g2 : k0_cond2 i = 1#1) (g3 : k0_cond3 i = 1#1) (x w : Vec F S2048x512 .f32) (f : OutV F) (hA : A c = k0_pay2 x w f)
    (Q : PUnit → sProp 𝕄) :
    iprop(recs A K ∗ levAts L lv ∗ owesAny c (O₀ c) ∗ lin c ∗ bufs c ∗ ins c a1 a2 x w ∗ outP c f)
      ⊢ iprop((((owesAny c 0 ∗ outP c (outS A 6 c) ∗ bufs c ∗ semsD c ∗ semVal (bCell c) 0) ∗ ins c a1 a2 x w) -∗ Q ⟨⟩) -∗ wpC c (bodyP i a1 h1 a2 h2) Q) := by
  rw [last_eq i a1 h1 a2 h2 g1 g2 g3]
  simp only [Prog.lift, Prog.bind_op, Prog.bind_ret]
  iintro ⟨#Hrec, #Hlev, HO, Hlin, Hb, ⟨Hx, Hw⟩, Ho⟩ Hk
  iapply (wp_in_load c a1 x) $$ Hx; iintro Hx
  iapply (wp_in_load c a2 w) $$ Hw; iintro Hw
  iapply (wp_out_load c f) $$ Ho; iintro Ho
  iapply (wp_out_load c f) $$ Ho; iintro Ho
  iapply (wp_out_store c f) $$ Ho; iintro Ho
  rw [wpC_deviceId, ← hA]
  iapply (wp_comm A K c i g3) $$ [HO Hlin Hb Ho]
  · isplitr; · iexact Hrec
    isplitr; · iexact Hlev
    isplitl [HO]; · iexact HO
    isplitl [Hlin]; · iexact Hlin
    isplitl [Hb]; · iexact Hb
    iexact Ho
  iintro H
  iapply Hk
  isplitl [H]; · iexact H
  isplitl [Hx]; · iexact Hx
  iexact Hw

end Body

end Cert.KernelIdeal.Pf

end
-- ==== Proof.Grid.lean ====
/-
# The grid

What every buffer holds between grid points, and the kernel's body run at each of them: the pipeline's obligation.
-/
module

public import proofs.«01_k».proof.Proof.Body

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-! ## The proof data -/

/-- The running sum of products after grid point `n`. -/
def acc (c : Dev nD) : (n : ℕ) → n < cfg0.N → OutV F
  | 0, h => k0_pay1 (iblk m c 0 ⟨0, h⟩) (iblk m c 1 ⟨0, h⟩)
  | n + 1, h => k0_pay2 (iblk m c 0 ⟨n + 1, h⟩) (iblk m c 1 ⟨n + 1, h⟩) (acc c n (Nat.lt_of_succ_lt h))

/-- A device's partial product: the sum over all sixteen points. -/
def part (c : Dev nD) : OutV F := acc m c 15 (by rw [show cfg0.N = 16 from N_0]; decide)

/-- What the output block holds after point `t`. -/
def outAt (c : Dev nD) (t : Fin cfg0.N) : OutV F := if t.val = 15 then outS (part m) 6 c else acc m c t.val t.isLt

/-- What a device starts the exchange with. -/
def start (c : Dev nD) : sProp 𝕄 := iprop(∃ K, recs (part m) K ∗ levAts L lv ∗ lin c)

/-- The invariant up to the last point, -/
def Φ₀ (c : Dev nD) : sProp 𝕄 := iprop(start m c ∗ bufs c)
/-- and after it: the buffers, and every semaphore at zero. -/
def Φ₁ (c : Dev nD) : sProp 𝕄 := iprop(bufs (F := F) c ∗ semsD c ∗ semVal (bCell c) 0)

/-- The proof data of the pipeline. -/
def dats (_ : Fin 1) (c : Dev nD) : Dat τ (Elt F) ℕ ℕ UU ℕ cfg0 c where
  A w := m ((cfg0.win w).arr.view.loc (c : Thread nD τ))
  after w t := match w with
    | ⟨0, _⟩ => iblk m c 0 t
    | ⟨1, _⟩ => iblk m c 1 t
    | ⟨2, _⟩ => outAt m c t
    | ⟨_ + 3, h⟩ => absurd h (Nat.not_lt.2 (Nat.le_add_left _ _))
  Φ t := if t.val ≤ 15 then Φ₀ m c else Φ₁ c
  q _ := fullShare
  owed t := if t.val ≤ 15 then O₀ c else 0

section Facts

variable (c : Dev nD) (t : Fin cfg0.N)

theorem before_0 (d) : (dats m 0 c).before 0 t d = iblk m c 0 t := by
  unfold Dat.before; rw [if_pos (fetch0_0 t)]; rfl
theorem before_1 (d) : (dats m 0 c).before 1 t d = iblk m c 1 t := by
  unfold Dat.before; rw [if_pos (fetch0_1 t)]; rfl

theorem lt16 : t.val < 16 := lt_of_lt_of_eq t.isLt (show cfg0.N = 16 from N_0)

theorem idle_2 : ∀ i, cfg0.idle 2 i = false := by decide

/-- Past the first point the output block holds the running sum so far. -/
theorem before_2 (n : ℕ) (h : n + 1 < cfg0.N) (d) : (dats m 0 c).before 2 ⟨n + 1, h⟩ d = acc m c n (Nat.lt_of_succ_lt h) := by
  have hn : n + 1 < 16 := lt_of_lt_of_eq h (show cfg0.N = 16 from N_0)
  rw [(dats m 0 c).before_out_kept 2 rfl ⟨n + 1, h⟩ (Nat.succ_ne_zero n)
    (by rw [Bool.eq_false_iff]; intro hf; have := (flush0_2 _).mp hf; dsimp only at this; omega) idle_2 (fun _ _ => rfl) d]
  show outAt m c ⟨n, _⟩ = _
  unfold outAt; rw [if_neg (by dsimp only; omega)]

theorem conds : ∀ t : Fin grid0.N, (k0_cond1 (grid0.coords t) = 1#1 ↔ t.val = 0) ∧ (k0_cond2 (grid0.coords t) = 1#1 ↔ t.val ≠ 0)
    ∧ (k0_cond3 (grid0.coords t) = 1#1 ↔ t.val = 15) := by decide +kernel

theorem stage_2 : ∀ s, (cfg0.win 2).stage s = oM := fun
  | ⟨0, _⟩ => rfl
  | ⟨_ + 1, h⟩ => absurd h (Nat.not_lt.2 (Nat.le_add_left _ _))

theorem owns_out (X : OutV F) : (owns (c : Thread nD τ) oM fullShare X : sProp 𝕄) = iprop(∃ f : OutV F, ⌜f = X⌝ ∗ outP c f) := by
  unfold owns; simp only [Memref.view_whole, View.read_whole, View.set_whole]

theorem owes_out (t : Fin (cfg0.N + 1)) : (dats m 0 c).owesAt 0 t ⊢ owesAny c ((dats m 0 c).owed t) := by
  unfold Dat.owesAt Pipeline.owesWithin owesAny
  iintro ⟨%W, -, H⟩; iexists W; iexact H

theorem owes_in (t : Fin (cfg0.N + 1)) : owesAny c ((dats m 0 c).owed t) ⊢ (dats m 0 c).owesAt 0 t := by
  unfold Dat.owesAt Pipeline.owesWithin owesAny
  iintro ⟨%W, H⟩; iexists W; isplitr
  · ipureintro; exact fun _ _ => Or.inl trivial
  · iexact H

theorem Φ_le (t : Fin (cfg0.N + 1)) (h : t.val ≤ 15) : (dats m 0 c).Φ t = Φ₀ m c := if_pos h
theorem Φ_gt (t : Fin (cfg0.N + 1)) (h : ¬t.val ≤ 15) : (dats m 0 c).Φ t = Φ₁ c := if_neg h
theorem owed_le (t : Fin (cfg0.N + 1)) (h : t.val ≤ 15) : (dats m 0 c).owed t = O₀ c := if_pos h
theorem owed_gt (t : Fin (cfg0.N + 1)) (h : ¬t.val ≤ 15) : (dats m 0 c).owed t = 0 := if_neg h

end Facts

/-! ## The body at every point -/

section Points

variable (c : Dev nD) (a1 : Memref sig .tc .vmem S2048x512 .f32) (h1 : a1.IsWhole) (a2 : Memref sig .tc .vmem S2048x512 .f32) (h2 : a2.IsWhole)

/-- What the body finds at a point, but for the output block, -/
abbrev ptPre (t : Fin cfg0.N) : sProp 𝕄 :=
  iprop((dats m 0 c).Φ t.castSucc ∗ owesAny c ((dats m 0 c).owed t.castSucc) ∗ ins c a1 a2 (iblk m c 0 t) (iblk m c 1 t))
/-- and what it leaves. -/
abbrev ptPost (t : Fin cfg0.N) : sProp 𝕄 :=
  iprop((dats m 0 c).Φ t.succ ∗ owesAny c ((dats m 0 c).owed t.succ) ∗ ins c a1 a2 (iblk m c 0 t) (iblk m c 1 t) ∗ outP c (outAt m c t))

theorem pt_first (t : Fin cfg0.N) (h0 : t.val = 0) (f : OutV F) (Q : PUnit → sProp 𝕄) :
    iprop(ptPre m c a1 a2 t ∗ outP c f) ⊢ iprop((ptPost m c a1 a2 t -∗ Q ⟨⟩) -∗ wpC c (bodyP (grid0.coords t) a1 h1 a2 h2) Q) := by
  obtain ⟨k1, k2, k3⟩ := conds t
  have e1 : t.castSucc.val ≤ 15 := by show t.val ≤ 15; omega
  have e2 : t.succ.val ≤ 15 := by show t.val + 1 ≤ 15; omega
  have e3 : outAt m c t = k0_pay1 (iblk m c 0 t) (iblk m c 1 t) := by
    obtain ⟨n, hn⟩ := t
    obtain rfl : n = 0 := h0
    rfl
  unfold ptPre ptPost
  rw [Φ_le m c _ e1, Φ_le m c _ e2, owed_le m c _ e1, owed_le m c _ e2, e3]
  iintro ⟨⟨HΦ, HO, Hin⟩, Ho⟩ Hk
  iapply (wp_first c (grid0.coords t) a1 h1 a2 h2 (k1.mpr h0) (fun h => k2.mp h h0) (fun h => by have := k3.mp h; omega) _ _ f) $$ [Hin Ho]
  · isplitl [Hin]; · iexact Hin
    iexact Ho
  iintro ⟨Hin, Ho⟩
  iapply Hk
  isplitl [HΦ]; · iexact HΦ
  isplitl [HO]; · iexact HO
  isplitl [Hin]; · iexact Hin
  iexact Ho

theorem pt_middle (n : ℕ) (hn : n + 1 < cfg0.N) (h15 : n + 1 ≠ 15) (Q : PUnit → sProp 𝕄) :
    iprop(ptPre m c a1 a2 ⟨n + 1, hn⟩ ∗ outP c (acc m c n (Nat.lt_of_succ_lt hn)))
      ⊢ iprop((ptPost m c a1 a2 ⟨n + 1, hn⟩ -∗ Q ⟨⟩) -∗ wpC c (bodyP (grid0.coords ⟨n + 1, hn⟩) a1 h1 a2 h2) Q) := by
  obtain ⟨k1, k2, k3⟩ := conds ⟨n + 1, hn⟩
  have h16 : n + 1 < 16 := lt16 ⟨n + 1, hn⟩
  have e1 : (Fin.castSucc (⟨n + 1, hn⟩ : Fin cfg0.N)).val ≤ 15 := by show n + 1 ≤ 15; omega
  have e2 : (Fin.succ (⟨n + 1, hn⟩ : Fin cfg0.N)).val ≤ 15 := by show n + 1 + 1 ≤ 15; omega
  have e3 : outAt m c ⟨n + 1, hn⟩ = k0_pay2 (iblk m c 0 ⟨n + 1, hn⟩) (iblk m c 1 ⟨n + 1, hn⟩) (acc m c n (Nat.lt_of_succ_lt hn)) := if_neg h15
  unfold ptPre ptPost
  rw [Φ_le m c _ e1, Φ_le m c _ e2, owed_le m c _ e1, owed_le m c _ e2, e3]
  iintro ⟨⟨HΦ, HO, Hin⟩, Ho⟩ Hk
  iapply (wp_middle c (grid0.coords ⟨n + 1, hn⟩) a1 h1 a2 h2 (fun h => Nat.succ_ne_zero n (k1.mp h)) (k2.mpr (Nat.succ_ne_zero n)) (fun h => h15 (k3.mp h)) _ _ _) $$ [Hin Ho]
  · isplitl [Hin]; · iexact Hin
    iexact Ho
  iintro ⟨Hin, Ho⟩
  iapply Hk
  isplitl [HΦ]; · iexact HΦ
  isplitl [HO]; · iexact HO
  isplitl [Hin]; · iexact Hin
  iexact Ho

theorem pt_last (n : ℕ) (hn : n + 1 < cfg0.N) (h15 : n + 1 = 15) (Q : PUnit → sProp 𝕄) :
    iprop(ptPre m c a1 a2 ⟨n + 1, hn⟩ ∗ outP c (acc m c n (Nat.lt_of_succ_lt hn)))
      ⊢ iprop((ptPost m c a1 a2 ⟨n + 1, hn⟩ -∗ Q ⟨⟩) -∗ wpC c (bodyP (grid0.coords ⟨n + 1, hn⟩) a1 h1 a2 h2) Q) := by
  obtain ⟨k1, k2, k3⟩ := conds ⟨n + 1, hn⟩
  have e1 : (Fin.castSucc (⟨n + 1, hn⟩ : Fin cfg0.N)).val ≤ 15 := by show n + 1 ≤ 15; omega
  have e2 : ¬(Fin.succ (⟨n + 1, hn⟩ : Fin cfg0.N)).val ≤ 15 := by show ¬n + 1 + 1 ≤ 15; omega
  have e3 : outAt m c ⟨n + 1, hn⟩ = outS (part m) 6 c := if_pos h15
  have e4 : part m c = k0_pay2 (iblk m c 0 ⟨n + 1, hn⟩) (iblk m c 1 ⟨n + 1, hn⟩) (acc m c n (Nat.lt_of_succ_lt hn)) := by
    obtain rfl : n = 14 := by omega
    rfl
  unfold ptPre ptPost
  rw [Φ_le m c _ e1, Φ_gt m c _ e2, owed_le m c _ e1, owed_gt m c _ e2, e3]
  unfold Φ₀ Φ₁ start
  iintro ⟨⟨⟨⟨%K, Hrec, Hlev, Hlin⟩, Hb⟩, HO, Hin⟩, Ho⟩ Hk
  iapply (wp_last c (grid0.coords ⟨n + 1, hn⟩) a1 h1 a2 h2 (part m) K (fun h => Nat.succ_ne_zero n (k1.mp h)) (k2.mpr (Nat.succ_ne_zero n)) (k3.mpr h15) _ _ _ e4) $$ [Hrec Hlev Hlin Hb HO Hin Ho]
  · isplitl [Hrec]; · iexact Hrec
    isplitl [Hlev]; · iexact Hlev
    isplitl [HO]; · iexact HO
    isplitl [Hlin]; · iexact Hlin
    isplitl [Hb]; · iexact Hb
    isplitl [Hin]; · iexact Hin
    iexact Ho
  iintro ⟨⟨HO, Ho, Hb, Hs, Hz⟩, Hin⟩
  iapply Hk
  isplitl [Hb Hs Hz]
  · isplitl [Hb]; · iexact Hb
    isplitl [Hs]; · iexact Hs
    iexact Hz
  isplitl [HO]; · iexact HO
  isplitl [Hin]; · iexact Hin
  iexact Ho

/-- The body at any point. -/
theorem pt (t : Fin cfg0.N) (d : OutV F) (Q : PUnit → sProp 𝕄) :
    iprop(ptPre m c a1 a2 t ∗ outP c ((dats m 0 c).before 2 t d))
      ⊢ iprop((ptPost m c a1 a2 t -∗ Q ⟨⟩) -∗ wpC c (bodyP (grid0.coords t) a1 h1 a2 h2) Q) := by
  obtain ⟨n, hn⟩ := t
  rcases n with _ | n
  · exact pt_first m c a1 h1 a2 h2 ⟨0, hn⟩ rfl _ Q
  · rw [before_2 m c n hn d]
    by_cases h : n + 1 = 15
    · exact pt_last m c a1 h1 a2 h2 n hn h Q
    · exact pt_middle m c a1 h1 a2 h2 n hn h Q

/-- The same stated of the staging memrefs the pipeline passes. -/
theorem pt_owns (t : Fin cfg0.N) (a3 : Memref sig .tc .vmem S2048x2048 .f32) (h3 : a3.IsWhole) (e : a3 = oM) :
    iprop((dats m 0 c).Φ t.castSucc ∗ (dats m 0 c).owesAt 0 t.castSucc
        ∗ (∃ d, owns (c : Thread nD τ) a1 fullShare ((dats m 0 c).before 0 t d)) ∗ (∃ d, owns (c : Thread nD τ) a2 fullShare ((dats m 0 c).before 1 t d))
        ∗ (∃ d, owns (c : Thread nD τ) a3 fullShare ((dats m 0 c).before 2 t d)))
      ⊢ wpC c (cc0_body (grid0.coords t) a1 h1 a2 h2 a3 h3 (sendM 0) (isW _) (sendM 1) (isW _) (recvM 0) (isW _) (recvM 1) (isW _) cc0_scratch4 cc0_scratch5)
          (fun _ => iprop((dats m 0 c).Φ t.succ ∗ (dats m 0 c).owesAt 0 t.succ
            ∗ owns (c : Thread nD τ) a1 fullShare (iblk m c 0 t) ∗ owns (c : Thread nD τ) a2 fullShare (iblk m c 1 t) ∗ owns (c : Thread nD τ) a3 fullShare (outAt m c t))) := by
  subst e
  simp only [before_0, before_1]
  iintro ⟨HΦ, HO, ⟨%d0, Hx⟩, ⟨%d1, Hw⟩, ⟨%d2, Ho⟩⟩
  ihave Ho2 := (Entails.of_eq (owns_out c ((dats m 0 c).before 2 t d2))) $$ Ho
  icases Ho2 with ⟨%f, %hf, Ho⟩
  subst hf
  ihave HO := (owes_out m c t.castSucc) $$ HO
  iapply (pt m c a1 h1 a2 h2 t d2) $$ [HΦ HO Hx Hw Ho]
  · isplitr [Ho]
    · isplitl [HΦ]; · iexact HΦ
      isplitl [HO]; · iexact HO
      isplitl [Hx]; · iexact Hx
      iexact Hw
    · iexact Ho
  iintro ⟨HΦ, HO, ⟨Hx, Hw⟩, Ho⟩
  isplitl [HΦ]; · iexact HΦ
  isplitl [HO]; · iapply (owes_in m c t.succ); iexact HO
  isplitl [Hx]; · iexact Hx
  isplitl [Hw]; · iexact Hw
  iapply (Entails.of_eq (owns_out c (outAt m c t)).symm)
  iexists _; isplitr
  · ipureintro; rfl
  · iexact Ho

end Points

/-- The pipeline's obligation: the body runs at every point, from what the point before left to what the next one finds. -/
theorem body_obligation (c : Dev nD) : BodyObligation (dats (F := F) m 0 c) (defs₀ (F := F)) 𝒱₀ 0 Set.univ := fun t => by
  rw [bigSep_W0, bigSep_W0]
  dsimp only
  rw [show idle0 2 (grid0.coords t) = false from idle_2 _]
  exact pt_owns m c _ _ _ _ t _ (hstage0_2 _) (stage_2 _)

end Cert.KernelIdeal.Pf

end
-- ==== Proof.Launch.lean ====
/-
# The launch

What every device is dealt at launch: its places at its nine semaphores, the rights to credit its own and its neighbours'
cells, and the credit its neighbours owe it. From it, the run of the whole program: it terminates on every device, with the
window arrays at the pipeline's contents and every semaphore at zero.
-/
module

public import proofs.«01_k».proof.Proof.Grid
public import Idealize.ShloMosaic.Lib.Pipeline.CollectiveSegs

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

/-! ## Six of a kind -/

/-- The last `n` of six resources, one per step. -/
def six (f : ℕ → sProp 𝕄) : ℕ → sProp 𝕄
  | 0 => iprop(emp)
  | n + 1 => iprop(f (5 - n) ∗ six f n)

theorem six_succ (f : ℕ → sProp 𝕄) (n : ℕ) : six f (n + 1) = iprop(f (5 - n) ∗ six f n) := rfl

theorem six_of (f : ℕ → sProp 𝕄) : (bigSep Finset.univ fun u : Fin 6 => f u.val) ⊢ six f 6 := by
  rw [bigSep_univ_eq_bigSepL [0, 1, 2, 3, 4, 5] (by decide) (by decide)]
  show iprop(f 0 ∗ f 1 ∗ f 2 ∗ f 3 ∗ f 4 ∗ f 5) ⊢ iprop(f 0 ∗ f 1 ∗ f 2 ∗ f 3 ∗ f 4 ∗ f 5 ∗ emp)
  iintro ⟨H0, H1, H2, H3, H4, H5⟩
  isplitl [H0]; · iexact H0
  isplitl [H1]; · iexact H1
  isplitl [H2]; · iexact H2
  isplitl [H3]; · iexact H3
  isplitl [H4]; · iexact H4
  isplitl [H5]; · iexact H5
  iempintro

/-- The right to make the credit of one's own copy of step `u`. -/
def tS (c : Dev nD) (d : Fin 2) (u : ℕ) : sProp 𝕄 := dutyTok ER (sCell c d u) (u / 2) 0
/-- The right to credit `c`'s receive cell of step `u`. -/
def tR (c : Dev nD) (d : Fin 2) (u : ℕ) : sProp 𝕄 := dutyTok ER (rCell c d u) (u / 2) 0
/-- The right to signal `c`'s barrier from direction `e`. -/
def tB (c : Dev nD) (e : Fin 2) : sProp 𝕄 := dutyTok ER (bCell c) 0 e
/-- The credit of the copy landing in step `u`. -/
def cr (c : Dev nD) (d : Fin 2) (u : ℕ) : sProp 𝕄 := cred (tallyAt (rCell c d u) u N)

/-- Step by step, credits and rights are what the steps use up. -/
theorem steps_of (c : Dev nD) (n : ℕ) :
    iprop((six (F := F) (cr c 0) n ∗ six (cr c 1) n) ∗ (six (tR (nb 0 c) 0) n ∗ six (tR (nb 1 c) 1) n) ∗ (six (tS c 0) n ∗ six (tS c 1) n)) ⊢ stepsLeft c n := by
  induction n with
  | zero => iintro -; unfold stepsLeft; iempintro
  | succ n ih =>
    simp only [six_succ]
    rw [stepsLeft_succ]
    unfold stepRes
    iintro ⟨⟨⟨A0, AR0⟩, ⟨A1, AR1⟩⟩, ⟨⟨B0, BR0⟩, ⟨B1, BR1⟩⟩, ⟨⟨C0, CR0⟩, ⟨C1, CR1⟩⟩⟩
    isplitl [A0 B0 C0]
    · isplitl [A0]; · unfold cr; iexact A0
      isplitl [B0]; · unfold tR; iexact B0
      unfold tS; iexact C0
    isplitl [A1 B1 C1]
    · isplitl [A1]; · unfold cr; iexact A1
      isplitl [B1]; · unfold tR; iexact B1
      unfold tS; iexact C1
    iapply ih
    isplitl [AR0 AR1]
    · isplitl [AR0]; · iexact AR0
      iexact AR1
    isplitl [BR0 BR1]
    · isplitl [BR0]; · iexact BR0
      iexact BR1
    isplitl [CR0]; · iexact CR0
    iexact CR1

/-! ## The cells and the rights as dealt -/

/-- The kernel's own copy semaphores, past the staging ones. -/
def osem (k : Fin 8) : SemLoc sig := .dma ⟨5 + k.val, by show _ < 13; omega⟩

theorem own_facts : Pipeline.OwnSemFacts cfg0.spec osem := by decide

theorem nine (f : Fin 9 → sProp 𝕄) : bigSep Finset.univ f = iprop(f 0 ∗ f 1 ∗ f 2 ∗ f 3 ∗ f 4 ∗ f 5 ∗ f 6 ∗ f 7 ∗ f 8) :=
  bigSep_univ_eq_bigSepL [0, 1, 2, 3, 4, 5, 6, 7, 8] (by decide) (by decide) f

theorem csem_inj : Function.Injective csem := by decide

theorem kcell_inj : Function.Injective (kcell : Dev nD × Fin 9 → GSem nD τ sig) := by
  rintro ⟨c, k⟩ ⟨c', k'⟩ h
  obtain rfl : c = c' := congrArg (fun g : GSem nD τ sig => g.1.1) h
  obtain rfl : k = k' := csem_inj (congrArg Prod.snd h)
  rfl

/-- Every cell of the exchange. -/
def allCells : Finset (GSem nD τ sig) := Finset.univ.map ⟨kcell, kcell_inj⟩

/-- A device's rights: per step, both of its send cells, both of its receive cells, and (used for the first step only) both
    directions of its barrier. -/
def tokS (x : Fin 6 × Fin 6) : SemLoc sig × ℕ × Fin 2 :=
  match x.2 with
  | 0 => (.dma (sS 0 (sl x.1.val)), x.1.val / 2, 0)
  | 1 => (.dma (sS 1 (sl x.1.val)), x.1.val / 2, 0)
  | 2 => (.dma (rS 0 (sl x.1.val)), x.1.val / 2, 0)
  | 3 => (.dma (rS 1 (sl x.1.val)), x.1.val / 2, 0)
  | 4 => (.reg barrier0, x.1.val, 0)
  | 5 => (.reg barrier0, x.1.val, 1)

set_option maxRecDepth 8000 in
theorem tokS_inj : Function.Injective tokS := by decide +kernel

/-- The same of a device. -/
def tokOf (x : Dev nD × (Fin 6 × Fin 6)) : GSem nD τ sig × ℕ × Fin 2 := (((x.1 : Thread nD τ), (tokS x.2).1), (tokS x.2).2)

theorem tokOf_inj : Function.Injective tokOf := by
  rintro ⟨c, x⟩ ⟨c', x'⟩ h
  obtain rfl : c = c' := congrArg (fun y : GSem nD τ sig × ℕ × Fin 2 => y.1.1.1) h
  obtain rfl : x = x' := tokS_inj (congrArg (fun y : GSem nD τ sig × ℕ × Fin 2 => (y.1.2, y.2)) h)
  rfl

/-- Every right of the exchange. -/
def allToks : Finset (GSem nD τ sig × ℕ × Fin 2) := Finset.univ.map ⟨tokOf, tokOf_inj⟩

/-- The ghost state at launch. -/
def u₀ : UU := (initOf (Pipeline.cells cfgs cellOf_inj) (Pipeline.launchToks cfgs cellOf_inj), initOf allCells allToks)

/-- The rights to credit device `c`'s own cells. -/
def toks (c : Dev nD) : sProp 𝕄 :=
  iprop(six (F := F) (tS c 0) 6 ∗ six (tS c 1) 6 ∗ six (tR c 0) 6 ∗ six (tR c 1) 6 ∗ tB c 0 ∗ tB c 1)

/-- The rights device `c` uses: those of its own copies, and those of its neighbours' cells it credits. -/
def payToks (c : Dev nD) : sProp 𝕄 :=
  iprop(six (F := F) (tS c 0) 6 ∗ six (tS c 1) 6 ∗ six (tR (nb 0 c) 0) 6 ∗ six (tR (nb 1 c) 1) 6 ∗ tB (nb 1 c) 0 ∗ tB (nb 0 c) 1)

theorem toks_of (c : Dev nD) :
    (bigSep Finset.univ fun x : Fin 6 × Fin 6 => (dutyTok ER (tokOf (c, x)).1 (tokOf (c, x)).2.1 (tokOf (c, x)).2.2 : sProp 𝕄)) ⊢ toks c := by
  rw [bigSep_univ_prod, bigSep_congr (s := Finset.univ) (fun (u : Fin 6) _ => bigSep_univ_eq_bigSepL [0, 1, 2, 3, 4, 5] (by decide) (by decide) _)]
  show (bigSep Finset.univ fun u : Fin 6 => iprop(tS c 0 u.val ∗ tS c 1 u.val ∗ tR c 0 u.val ∗ tR c 1 u.val
    ∗ dutyTok ER (bCell c) u.val 0 ∗ dutyTok ER (bCell c) u.val 1)) ⊢ _
  rw [bigSep_sep', bigSep_sep', bigSep_sep', bigSep_sep', bigSep_sep']
  unfold toks
  exact BIClass.sep_mono (six_of _) (BIClass.sep_mono (six_of _) (BIClass.sep_mono (six_of _) (BIClass.sep_mono (six_of _)
    (BIClass.sep_mono (bigSep_elim (Finset.mem_univ (0 : Fin 6))) (bigSep_elim (Finset.mem_univ (0 : Fin 6)))))))

/-- The ring, as a rearrangement of the devices. -/
def ring (d : Fin 2) : Dev nD ≃ Dev nD := ⟨nb d, nb (1 - d), fr_nb d, nb_fr d⟩

/-- Passed to the neighbours that use them, all devices' rights are the rights all devices use. -/
theorem toks_pass : (bigSep Finset.univ fun c : Dev nD => (toks c : sProp 𝕄)) ⊢ bigSep Finset.univ fun c : Dev nD => payToks c := by
  unfold toks payToks
  simp only [bigSep_sep']
  rw [bigSep_univ_equiv (ring 0) (fun c : Dev nD => (six (tR c 0) 6 : sProp 𝕄)), bigSep_univ_equiv (ring 1) (fun c : Dev nD => (six (tR c 1) 6 : sProp 𝕄)),
    bigSep_univ_equiv (ring 1) (fun c : Dev nD => (tB c 0 : sProp 𝕄)), bigSep_univ_equiv (ring 0) (fun c : Dev nD => (tB c 1 : sProp 𝕄))]
  exact Entails.refl _

variable (m : (ℓ : Loc nD τ sig) → Buf (Elt F) ℓ)

/-! ## From ghost state to invariants -/

/-- What the launch's ghost state deals a device. -/
def G (c : Dev nD) : sProp 𝕄 :=
  iprop((bigSep Finset.univ fun k : Fin 9 => roundState ER (sched (part m)) (kcell (c, k)) 0)
    ∗ (bigSep Finset.univ fun k : Fin 9 => atPos ER (kcell (c, k)) 0 ∅ 0) ∗ (bigSep Finset.univ fun k : Fin 9 => reached ER (kcell (c, k)) 0) ∗ toks c)

/-- A device's own places at its nine cells. -/
def places (c : Dev nD) : sProp 𝕄 := bigSep Finset.univ fun k : Fin 9 => atPos ER (kcell (c, k)) 0 ∅ 0

/-- What it is made into. -/
def G' (c : Dev nD) : sProp 𝕄 := iprop(∃ K, recs (part m) K ∗ places c ∗ payToks c)

theorem fund_all : BI.own (ER (initOf allCells allToks)) ⊢ (|==> bigSep Finset.univ (G m) : sProp 𝕄) := by
  have hC (Φ : GSem nD τ sig → sProp 𝕄) : bigSep allCells Φ = bigSep Finset.univ fun c : Dev nD => bigSep Finset.univ fun k : Fin 9 => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => toks c := by
    unfold allToks; rw [bigSep_map, bigSep_univ_prod]
    exact bigSep_mono fun c _ => toks_of c
  iintro HX
  imod (Rounds.fund ER (sched (part m)) allCells allToks) $$ HX with ⟨Hst, Hr, Hat, Htok⟩
  imodintro
  ihave Hst := (Entails.of_eq (hC fun g => roundState ER (sched (part m)) g 0)) $$ Hst
  ihave Hat := (Entails.of_eq (hC fun g => atPos ER g 0 ∅ 0)) $$ Hat
  ihave Hr := (Entails.of_eq (hC fun g => reached ER g 0)) $$ Hr
  ihave Htok := hT $$ Htok
  unfold G
  simp only [bigSep_sep']
  isplitl [Hst]; · iexact Hst
  isplitl [Hat]; · iexact Hat
  isplitl [Hr]; · iexact Hr
  iexact Htok

/-- The copy semaphores are the kernel's own eight, -/
theorem own_sems (c : Dev nD) : (Pipeline.ownSems0 (Ix := ℕ) (Name := ℕ) (U := UU) (Lvl := ℕ) (Val := Elt F) (τ := τ) osem c : sProp 𝕄)
    = iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0) :=
  Pipeline.ownSems0_eq_of_list c osem [0, 1, 2, 3, 4, 5, 6, 7] (by decide) (by decide)

/-- and the barrier is the one semaphore outside the kernel's scope. -/
theorem unscoped_sems (c : Dev nD) : (unscopedSems0 c : sProp 𝕄) = semVal (bCell c) 0 := by
  unfold unscopedSems0; rw [bigSep_eq_bigSepL_of_eq [SemLoc.reg barrier0] (by decide) (by decide)]; rfl

theorem sems_nine (c : Dev nD) :
    iprop(Pipeline.ownSems0 (Ix := ℕ) (Name := ℕ) (U := UU) (Lvl := ℕ) (Val := Elt F) (τ := τ) osem c ∗ unscopedSems0 c)
      ⊢ (bigSep Finset.univ fun k : Fin 9 => semVal (kcell (c, k)) 0 : sProp 𝕄) := by
  rw [own_sems, unscoped_sems, nine]
  iintro ⟨⟨H0, H1, H2, H3, H4, H5, H6, H7⟩, HB⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HB

/-- The cells' invariants of one device are made. -/
theorem make_inv (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Fin 9 => iprop(∃ κ : ℕ, cellInv ER (sched (part m)) κ (kcell (c, k)) ∗ reached ER (kcell (c, k)) 0))
          ∗ places c ∗ toks c) := by
  have hI : iprop((bigSep Finset.univ fun k : Fin 9 => semVal (kcell (c, k)) 0) ∗ bigSep Finset.univ fun k : Fin 9 => roundState ER (sched (part m)) (kcell (c, k)) 0)
      ⊢ (|={Set.univ}=> bigSep Finset.univ fun k : Fin 9 => iprop(∃ κ : ℕ, cellInv ER (sched (part m)) κ (kcell (c, k))) : sProp 𝕄) := by
    rw [← bigSep_sep']
    exact (bigSep_mono fun k _ => (Rounds.body_intro ER (sched (part m)) (kcell (c, k))).trans inv_alloc).trans (bigSep_fupd _ _)
  have hR : iprop((bigSep Finset.univ fun k : Fin 9 => iprop(∃ κ : ℕ, cellInv ER (sched (part m)) κ (kcell (c, k)))) ∗ bigSep Finset.univ fun k : Fin 9 => reached ER (kcell (c, k)) 0)
      ⊢ (bigSep Finset.univ fun k : Fin 9 => iprop(∃ κ : ℕ, cellInv ER (sched (part m)) κ (kcell (c, k)) ∗ reached ER (kcell (c, k)) 0) : sProp 𝕄) := by
    rw [← bigSep_sep']
    have h1 (k : Fin 9) : iprop((∃ κ : ℕ, cellInv ER (sched (part m)) κ (kcell (c, k))) ∗ reached ER (kcell (c, k)) 0)
        ⊢ (iprop(∃ κ : ℕ, cellInv ER (sched (part m)) κ (kcell (c, k)) ∗ reached ER (kcell (c, k)) 0) : sProp 𝕄) := by
      iintro ⟨⟨%κ, H⟩, HR⟩
      iexists κ
      isplitl [H]; · iexact H
      iexact HR
    exact bigSep_mono fun k _ => h1 k
  unfold G
  iintro ⟨Ho, Hu, Hst, Hat, Hr, Ht⟩
  ihave Hv := (sems_nine (F := F) c) $$ [Ho Hu]
  · isplitl [Ho]; · iexact Ho
    iexact Hu
  imod hI $$ [Hv Hst] with HI
  · isplitl [Hv]; · iexact Hv
    iexact Hst
  imodintro
  isplitl [HI Hr]
  · iapply hR
    isplitl [HI]; · iexact HI
    iexact Hr
  isplitl [Hat]; · unfold places; iexact Hat
  iexact Ht

/-- All devices' invariants together are everyone's records. -/
theorem deal :
    (bigSep Finset.univ fun c : Dev nD =>
        iprop((bigSep Finset.univ fun k : Fin 9 => iprop(∃ κ : ℕ, cellInv ER (sched (part m)) κ (kcell (c, k)) ∗ reached ER (kcell (c, k)) 0))
          ∗ places c ∗ toks c) : sProp 𝕄)
      ⊢ bigSep Finset.univ (G' m) := by
  rw [bigSep_sep', bigSep_sep',
    ← bigSep_univ_prod (fun ck : Dev nD × Fin 9 => iprop(∃ κ : ℕ, cellInv ER (sched (part m)) κ (kcell ck) ∗ reached ER (kcell ck) 0))]
  iintro ⟨HI, Hp, Ht⟩
  ihave HK := (BI.bigSep_exists_pi Finset.univ
    (fun (ck : Dev nD × Fin 9) (κ : ℕ) => (iprop(cellInv ER (sched (part m)) κ (kcell ck) ∗ reached ER (kcell ck) 0) : sProp 𝕄))) $$ HI
  icases HK with ⟨%K, HI⟩
  ihave Ht := (toks_pass (F := F)) $$ Ht
  have hG : iprop((bigSep Finset.univ fun _ : Dev nD => recs (part m) K) ∗ (bigSep Finset.univ fun c : Dev nD => places c) ∗ bigSep Finset.univ fun c : Dev nD => payToks c)
      ⊢ (bigSep Finset.univ (G' m) : sProp 𝕄) := by
    rw [← bigSep_sep', ← bigSep_sep']
    have h1 (c : Dev nD) : iprop(recs (part m) K ∗ places c ∗ payToks c) ⊢ G' m c := by
      unfold G'
      iintro H
      iexists K; iexact H
    exact bigSep_mono fun c _ => h1 c
  iapply hG
  isplitl [HI]
  · iapply (BI.bigSep_of_persistent Finset.univ (recs (part m) K))
    unfold recs
    iexact HI
  isplitl [Hp]; · iexact Hp
  iexact Ht

/-- The launch's one step over all devices. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => make_inv m c).trans (bigSep_fupd _ _)).trans (BI.fupd_mono (deal m))

/-! ## The credit at launch -/

theorem cred_one (d : Fin 2) (sm : SemLoc sig) (i k : ℕ) (c : Dev nD) :
    (Pipeline.launchCred (fun q => tallyAt ((nb d q : Thread nD τ), sm) i k) c : sProp 𝕄) ⊢ cred (tallyAt ((c : Thread nD τ), sm) i k) :=
  Pipeline.launchCred_tallyAt sm (nb d) (fr d) (nb_fr d) (fr_nb d) i k c

theorem cred_steps (c : Dev nD) (n : ℕ) :
    (Pipeline.launchCred (fun q => Ow q n) c : sProp 𝕄) ⊢ iprop(six (cr c 0) n ∗ six (cr c 1) n) := by
  induction n with
  | zero =>
    iintro -
    unfold six
    isplitl <;> iempintro
  | succ n ih =>
    rw [show (fun q : Dev nD => Ow q (n + 1)) = fun q => (Ow q n + tallyAt (rCell (nb 1 q) 1 (5 - n)) (5 - n) N) + tallyAt (rCell (nb 0 q) 0 (5 - n)) (5 - n) N from rfl,
      Pipeline.launchCred_add, Pipeline.launchCred_add, six_succ, six_succ]
    iintro ⟨⟨H, H1⟩, H0⟩
    ihave H := ih $$ H
    icases H with ⟨HA, HB⟩
    ihave H0 := (cred_one (F := F) 0 (.dma (rS 0 (sl (5 - n)))) (5 - n) N c) $$ H0
    ihave H1 := (cred_one (F := F) 1 (.dma (rS 1 (sl (5 - n)))) (5 - n) N c) $$ H1
    unfold cr
    isplitl [H0 HA]
    · isplitl [H0]; · iexact H0
      iexact HA
    isplitl [H1]; · iexact H1
    iexact HB

/-- A device is owed its six landing copies per direction and two barrier signals. -/
theorem cred_all (c : Dev nD) :
    (Pipeline.launchCred O₀ c : sProp 𝕄) ⊢ iprop((six (cr c 0) 6 ∗ six (cr c 1) 6) ∗ cred (tallyAt (bCell c) 0 2)) := by
  rw [show (O₀ : Dev nD → CellTallies nD τ sig ℕ) = fun q => (Ow q 6 + tallyAt (bCell (nb 0 q)) 0 1) + tallyAt (bCell (nb 1 q)) 0 1 from rfl,
    Pipeline.launchCred_add, Pipeline.launchCred_add]
  iintro ⟨⟨H, H0⟩, H1⟩
  ihave H := (cred_steps (F := F) c 6) $$ H
  ihave H0 := (cred_one (F := F) 0 (.reg barrier0) 0 1 c) $$ H0
  ihave H1 := (cred_one (F := F) 1 (.reg barrier0) 0 1 c) $$ H1
  isplitl [H]; · iexact H
  rw [show (tallyAt (bCell c) 0 2 : CellTallies nD τ sig ℕ) = tallyAt (bCell c) 0 1 + tallyAt (bCell c) 0 1 from (tallyAt_add _ 0 1 1).symm]
  iapply (cred_add _ _).2
  isplitl [H0]; · iexact H0
  iexact H1

/-! ## Starting and ending -/

theorem lin_of (c : Dev nD) :
    iprop(places c ∗ payToks c ∗ (six (cr c 0) 6 ∗ six (cr c 1) 6) ∗ cred (tallyAt (bCell c) 0 2)) ⊢ lin (F := F) c := by
  unfold places payToks lin at0 tB
  rw [nine]
  iintro ⟨⟨S00, S01, S10, S11, R00, R01, R10, R11, B⟩, ⟨TS0, TS1, TR0, TR1, TB0, TB1⟩, HC, HB⟩
  isplitl [B]; · iexact B
  isplitl [S00 R00 S10 R10]
  · isplitl [S00 R00]
    · isplitl [S00]; · iexact S00
      iexact R00
    · isplitl [S10]; · iexact S10
      iexact R10
  isplitl [S01 R01 S11 R11]
  · isplitl [S01 R01]
    · isplitl [S01]; · iexact S01
      iexact R01
    · isplitl [S11]; · iexact S11
      iexact R11
  isplitl [HC TS0 TS1 TR0 TR1]
  · iapply (steps_of c 6)
    isplitl [HC]; · iexact HC
    isplitl [TR0 TR1]
    · isplitl [TR0]; · iexact TR0
      iexact TR1
    · isplitl [TS0]; · iexact TS0
      iexact TS1
  isplitl [TB0]; · iexact TB0
  isplitl [TB1]; · iexact TB1
  iexact HB

theorem start_of (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start
  iintro ⟨-, Hlev, Hcr, -, ⟨%K, Hrec, Hp, Ht⟩⟩
  ihave Hcr := (cred_all (F := F) c) $$ Hcr
  imodintro
  isplitl
  · iexists K
    isplitl [Hrec]; · iexact Hrec
    isplitl [Hlev]; · iexact Hlev
    iapply (lin_of c)
    isplitl [Hp]; · iexact Hp
    isplitl [Ht]; · iexact Ht
    iexact Hcr
  · iempintro

theorem bufs_eq (c : Dev nD) : (Pipeline.scopedRest (Ix := ℕ) (Name := ℕ) (U := UU) (Lvl := ℕ) (Val := Elt F) cfg0.spec c : sProp 𝕄) = bufs c :=
  scopedRest0_eq c

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [Φ_le m c 0 (Nat.zero_le _), bufs_eq]
  unfold Φ₀
  iintro ⟨Hs, -, Hb⟩
  isplitl [Hs]; · iexact Hs
  iexact Hb

theorem leave (c : Dev nD) :
    (dats m 0 c).Φ (Fin.last cfg0.N) ⊢ iprop(unscopedSems0 c ∗ Pipeline.ownSems0 osem c ∗ Pipeline.scopedRest cfg0.spec c) := by
  rw [Φ_gt m c _ (by show ¬cfg0.N ≤ 15; rw [show cfg0.N = 16 from N_0]; decide), bufs_eq, own_sems, unscoped_sems]
  unfold Φ₁ semsD
  iintro ⟨Hb, ⟨⟨H0, H1, H2, H3⟩, ⟨H4, H5, H6, H7⟩⟩, HB⟩
  isplitl [HB]; · iexact HB
  isplitr [Hb]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iexact Hb

theorem waits (c : Dev nD) : (levAts L lv : sProp 𝕄) ⊢ Pipeline.cellsWaits cfgs (dats m) 0 0 c :=
  Pipeline.cellsWaits_intro cfgs (dats m) 0 0 c fun w s t =>
    mayWait_stage c _ (by revert w s; decide) _ (by
      by_cases h : t.val ≤ 15
      · exact .inl (owed_le m c t h)
      · exact .inr (owed_gt m c t h))

theorem share_eq (c : Dev nD) (w : Fin cfg0.W) : (dats m 0 c).share w = fullShare := by unfold Dat.share; split <;> rfl

/-! ## The run -/

/-- A window's array after the run. -/
def finalA (c : Dev nD) (w : Fin cfg0.W) : Buf (Elt F) ((cfg0.win w).arr.view.loc (c : Thread nD τ)) := (dats m 0 c).arrAt w cfg0.N

/-- Every window's array of every device is at the pipeline's contents. -/
def ends (r : PUnit × MemSt nD τ sig (Elt F)) : Prop :=
  ∀ (c : Dev nD) (w : Fin cfg0.W), r.2.mem ((cfg0.win w).arr.view.loc (c : Thread nD τ)) = finalA m c w

set_option maxRecDepth 8000 in
/-- From any memory with all semaphores at zero the program terminates on every device, ends with every window's array at the
    pipeline's contents, and leaves every semaphore at zero. -/
theorem run_main (ρ : Dev nD → PrngReg) :
    θ_run defs (onTc (τ := τ) (main (F := F))) (s₀ m ρ) (fun r => ends m r ∧ r.2.sem = fun _ => 0) :=
  Pipeline.θ_run_region_owing_glob_pf (fun p => (cfgs p).toPCfg) (fun p => (cfgs p).toPCfg_adm) (dats m) 0 cellOf_inj (0 : Fin 1)
    winFacts0.to₀ own_facts (Pipeline.PreFacts.none _) EP defs₀ 𝒱₀ m ρ main
    (hmain := fun _ => rfl)
    (hbody := fun c => (body_obligation m c).loose) (hne := fun w => by fin_cases w <;> exact Nat.succ_pos _)
    (harr := arr_whole0) (hstage := stage_whole0) (hshare := share_eq m)
    (hdistinct := winFacts0.arr_inj)
    (O₀ := O₀) (howed₀ := fun c => owed_le m c 0 (Nat.zero_le _))
    (howedN := fun c => owed_gt m c _ (by show ¬cfg0.N ≤ 15; rw [show cfg0.N = 16 from N_0]; decide))
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_of m ρ) (hin := enter m) (hout := leave m)
    (QY := fun c s => ∀ sm : SemLoc sig, sm.isScoped .tc = false → s.sem ((c : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Cert.KernelIdeal.Pf

end
-- ==== Proof.Result.lean ====
/-
# The result arrays

The pipeline writes the output block back once, after the last point, and the block is the whole array: so every device's
result array ends at what the exchange left, and the argument arrays end as launched.
-/
module

public import proofs.«01_k».proof.Proof.Launch

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

section Result

variable (c : Dev nD)

theorem out_idx (t : Fin cfg0.N) : (fun a => win0_2.index t a * main_v1.ty.shape.size a) = fun _ => 0 := funext fun a => by
  match a with
  | ⟨0, _⟩ => rfl
  | ⟨1, _⟩ => rfl

/-- The block written back is the exchange's result. -/
theorem flushed_out (t : Fin cfg0.N) (hf : (cfg0.win 2).flush t = true) :
    (dats m 0 c).flushed 2 t = ((cfg0.win 2).blk t).view.read (Elt F) (outS (part m) 6 c) := by
  have h16 := lt16 t
  have h15 : t.val = 15 := by have := (flush0_2 t).mp hf; omega
  show (cfg0.win 2).cut (grid0.coords t) (outAt m c t) = _
  unfold outAt
  rw [if_pos h15]
  exact (Memref.read_access_unit_zero (Elt F) main_v1 (out_idx t) (fun a => by rw [congrFun (out_idx t) a]; simp) (outS (part m) 6 c)).symm

/-- The result array of a device ends at what the exchange left in its output block. -/
theorem final_out : (dats m 0 c).arrAt 2 cfg0.N = outS (part m) 6 c :=
  (dats m 0 c).arrAt_eq_of_cover 2 (outS (part m) 6 c) (flushed_out m c) fun i =>
    ⟨t0_15, (flush0_2 t0_15).mpr rfl, by
      show i ∈ ((View.whole main_v1).slice (win0_2.rect t0_15)).set
      rw [View.set_slice_whole, Rect.mem_set_unit]
      intro a
      have h0 : (i 0 : Nat) < 2048 := (i 0).isLt
      have h1 : (i 1 : Nat) < 2048 := (i 1).isLt
      match a with
      | ⟨0, _⟩ => show 0 ≤ (i 0 : Nat) ∧ (i 0 : Nat) < 0 + 2048; omega
      | ⟨1, _⟩ => show 0 ≤ (i 1 : Nat) ∧ (i 1 : Nat) < 0 + 2048; omega⟩

end Result

/-- The program terminates on every device with the exchange's result in the result array, the arguments unchanged and every
    semaphore at zero. -/
theorem run (ρ : Dev nD → PrngReg) : θ_run defs (onTc (τ := τ) (main (F := F))) ⟨m, fun _ => 0, ρ⟩ fun r =>
    (∀ c : Dev nD, r.2.mem ((c : Thread nD τ).loc main_v1) = outS (part m) 6 c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0 :=
  (θ_run defs _ _).mono (fun r h => ⟨fun c => ⟨(h.1 c 2).trans (final_out m c),
      (h.1 c 0).trans ((dats m 0 c).arrAt_in 0 rfl _), (h.1 c 1).trans ((dats m 0 c).arrAt_in 1 rfl _)⟩, h.2⟩)
    (run_main m ρ)

end Cert.KernelIdeal.Pf

end
-- ==== Proof.Sum.lean ====
/-
# What the exchange leaves, in exact arithmetic

In exact arithmetic every device's output block ends at the sum, over the four devices, of the blocks they began with.
The proof reads one element at a time. An element lies in one chunk row `q` (rows `512 q` to `512 q + 511`) and one
direction `d` (the left or the right half of the columns), and only the copies of that direction touch it, so the whole
exchange is, at that element, a recursion on four scalars.
-/
module

public import proofs.«01_k».proof.Proof.Common
public import Idealize.ShloMosaic.Lib.Pointwise
public import Idealize.ShloMosaic.PureOps.Ideal.Laws

@[expose] public section

noncomputable section

namespace Cert.KernelIdeal.Pf

open Cert.KernelIdeal Cert.KernelIdeal.Gen
open Idealize.ShloMosaic
open Idealize.ShloMosaic.TcCoe

section Scalars

variable {M : Type} [AddCommMonoid M]

/-- One element of the devices' blocks after `u` steps: its chunk row is `q`, its direction `d`, and device `c` begins
    with `a c`. -/
def cell (q : ℕ) (d : Fin 2) (a : Dev nD → M) : ℕ → Dev nD → M
  | 0, c => a c
  | u + 1, c =>
    if (c.val + (3 - 2 * d.val) * (u + 1)) % 4 = q then
      if u < 3 then cell q d a u c + cell q d a u (fr d c) else cell q d a u (fr d c)
    else cell q d a u c

/-- After six steps every device holds the sum of what the four began with. -/
theorem cell_six (q : Fin 4) (d : Fin 2) (a : Dev nD → M) (c : Dev nD) : cell q.val d a 6 c = ∑ e : Dev nD, a e := by
  have hs : ∑ e : Dev nD, a e = a 0 + a 1 + a 2 + a 3 := Fin.sum_univ_four a
  rw [hs]
  have hf : ∀ (d : Fin 2) (c : Dev nD), fr d c = match d, c with
      | 0, 0 => 3 | 0, 1 => 0 | 0, 2 => 1 | 0, 3 => 2 | 1, 0 => 1 | 1, 1 => 2 | 1, 2 => 3 | 1, 3 => 0 := by decide
  have h4 : ∀ c : Dev nD, c = 0 ∨ c = 1 ∨ c = 2 ∨ c = 3 := by decide
  have hv : (0 : Dev nD).val = 0 ∧ (1 : Dev nD).val = 1 ∧ (2 : Dev nD).val = 2 ∧ (3 : Dev nD).val = 3 := by decide
  fin_cases q <;> fin_cases d <;> rcases h4 c with rfl | rfl | rfl | rfl <;>
    simp only [cell, hf, hv, Fin.zero_eta, Fin.mk_one, Fin.isValue, Fin.val_zero, Fin.val_one, Nat.reduceMul, Nat.reduceAdd, Nat.reduceSub,
      Nat.reduceMod, Nat.reduceEqDiff, Nat.reduceLT, Nat.zero_add, reduceIte, reduceCtorEq, Nat.zero_ne_one, Nat.one_ne_zero, OfNat.ofNat_ne_zero,
      OfNat.zero_ne_ofNat, Nat.succ_ne_self] <;>
    abel

end Scalars

section Elements

/-- An element of a block, as an extended real. -/
abbrev el (f : OutV Ideal) (x : S2048x2048.Idx) : EReal := f x

/-- The chunk row of an element. -/
abbrev rowOf (x : S2048x2048.Idx) : ℕ := (x 0).val / 512

/-- The element `z` of a chunk, as an element of the block. -/
theorem emb_val (u : ℕ) (d : Fin 2) (c : Dev nD) (z : S512x1024.Idx) :
    (((oM.access (cR u d c) : View sig .tc _ _ _).emb z : S2048x2048.Idx) 0).val = coff u d c 0 + (z 0).val
    ∧ (((oM.access (cR u d c) : View sig .tc _ _ _).emb z : S2048x2048.Idx) 1).val = coff u d c 1 + (z 1).val :=
  ⟨congrArg (coff u d c 0 + ·) (Nat.one_mul _), congrArg (coff u d c 1 + ·) (Nat.one_mul _)⟩

/-- An element of a chunk read off the block. -/
theorem chunk_apply (u : ℕ) (d : Fin 2) (c : Dev nD) (f : OutV Ideal) (z : S512x1024.Idx) :
    chunk u d c f z = f ((oM.access (cR u d c) : View sig .tc _ _ _).emb z) := rfl

/-- A chunk packed for sending holds the chunk's elements. -/
theorem pack_apply (v : Vec Ideal S512x1024 .f32) (z : S512x1024.Idx) :
    k0_pay3 v (ix3 0 (z 0) (z 1)) = v z := by
  pointwise [k0_pay3]

/-- What a landed chunk adds to an element. -/
theorem add_apply (x v : Vec Ideal S512x1024 .f32) (z : S512x1024.Idx) : k0_pay5 x (k0_pay3 v) z = x z + v z := by
  pointwise [k0_pay5, k0_pay3]

/-- What a landed chunk writes over an element. -/
theorem over_apply (v : Vec Ideal S512x1024 .f32) (z : S512x1024.Idx) : k0_pay18 (k0_pay3 v) z = v z := by
  pointwise [k0_pay18, k0_pay3]

/-- Taking a landed chunk in, at an element of the chunk. -/
theorem take_mem (u : ℕ) (d : Fin 2) (c : Dev nD) (f g : OutV Ideal) (x : S2048x2048.Idx)
    (hr : (c.val + (3 - 2 * d.val) * (u + 1)) % 4 = rowOf x) (hd : (x 1).val / 1024 = d.val) :
    el (takeF u d c f (k0_pay3 (chunk u d (fr d c) g))) x = if u < 3 then el f x + el g x else el g x := by
  have hx0 : (x 0).val < 2048 := (x 0).isLt
  have hx1 : (x 1).val < 2048 := (x 1).isLt
  let z : S512x1024.Idx := ix2 ⟨(x 0).val % 512, Nat.mod_lt _ (by decide)⟩ ⟨(x 1).val % 1024, Nat.mod_lt _ (by decide)⟩
  have hz : ((oM.access (cR (u + 1) d c) : View sig .tc _ _ _).emb z : S2048x2048.Idx) = x := by
    funext a
    apply Fin.ext
    match a with
    | ⟨0, _⟩ =>
      refine (emb_val (u + 1) d c z).1.trans ?_
      show 512 * ((c.val + (3 - 2 * d.val) * (u + 1)) % 4) + (x 0).val % 512 = (x 0).val
      rw [hr]; exact Nat.div_add_mod _ _
    | ⟨1, _⟩ =>
      refine (emb_val (u + 1) d c z).2.trans ?_
      show 1024 * d.val + (x 1).val % 1024 = (x 1).val
      rw [← hd]; exact Nat.div_add_mod _ _
  have hg : chunk u d (fr d c) g z = g x := by
    rw [chunk_apply]
    refine congrArg g (Eq.trans ?_ hz)
    funext a
    apply Fin.ext
    match a with
    | ⟨0, _⟩ => exact (emb_val u d (fr d c) z).1.trans ((congrArg (· + (z 0).val) (congrFun (coff_fr u d c) 0)).trans (emb_val (u + 1) d c z).1.symm)
    | ⟨1, _⟩ => exact (emb_val u d (fr d c) z).2.trans ((congrArg (· + (z 1).val) (congrFun (coff_fr u d c) 1)).trans (emb_val (u + 1) d c z).2.symm)
  have hf : chunk (u + 1) d c f z = f x := (chunk_apply ..).trans (congrArg f hz)
  have hw := View.write_emb_of_mem (Val := Elt Ideal) (v := (oM.access (cR (u + 1) d c) : View sig .tc _ _ _)) f
    (if u < 3 then k0_pay5 (chunk (u + 1) d c f) (k0_pay3 (chunk u d (fr d c) g)) else k0_pay18 (k0_pay3 (chunk u d (fr d c) g)))
    (Finset.mem_univ z)
  rw [hz] at hw
  refine hw.trans ?_
  show (if u < 3 then k0_pay5 (chunk (u + 1) d c f) (k0_pay3 (chunk u d (fr d c) g)) else k0_pay18 (k0_pay3 (chunk u d (fr d c) g))) z = _
  split
  · exact (add_apply _ _ z).trans (congrArg₂ (fun a b : EReal => a + b) hf hg)
  · exact (over_apply _ z).trans hg

/-- Taking a landed chunk in leaves the elements outside the chunk. -/
theorem take_not_mem (u : ℕ) (d : Fin 2) (c : Dev nD) (f : OutV Ideal) (y : Vec Ideal S1x512x1024 .bf16) (x : S2048x2048.Idx)
    (h : ¬((c.val + (3 - 2 * d.val) * (u + 1)) % 4 = rowOf x ∧ (x 1).val / 1024 = d.val)) :
    el (takeF u d c f y) x = el f x := by
  suffices hn : (id x : (oM.access (cR (u + 1) d c) : View sig .tc _ _ _).ty.Idx) ∉ (oM.access (cR (u + 1) d c) : View sig .tc _ _ _).setOn Finset.univ by
    have hw := View.write_of_not_mem (Val := Elt Ideal) (v := (oM.access (cR (u + 1) d c) : View sig .tc _ _ _)) f
      (if u < 3 then k0_pay5 (chunk (u + 1) d c f) y else k0_pay18 y) Finset.univ hn
    exact hw
  intro hm
  obtain ⟨z, -, hz⟩ := Finset.mem_map.mp hm
  apply h
  have h0 := (emb_val (u + 1) d c z).1
  have h1 := (emb_val (u + 1) d c z).2
  have e : ((oM.access (cR (u + 1) d c) : View sig .tc _ _ _).emb z : S2048x2048.Idx) = x := hz
  rw [e] at h0 h1
  have z0 : (z 0).val < 512 := (z 0).isLt
  have z1 : (z 1).val < 1024 := (z 1).isLt
  have k0 : coff (u + 1) d c 0 = 512 * ((c.val + (3 - 2 * d.val) * (u + 1)) % 4) := rfl
  have k1 : coff (u + 1) d c 1 = 1024 * d.val := rfl
  unfold rowOf
  omega

/-- One element of a device's block after `u` steps is the recursion on scalars at that element. -/
theorem outS_cell (A : Dev nD → OutV Ideal) (x : S2048x2048.Idx) (d : Fin 2) (hd : (x 1).val / 1024 = d.val) :
    ∀ (u : ℕ) (c : Dev nD), el (outS A u c) x = cell (rowOf x) d (fun e => el (A e) x) u c
  | 0, c => rfl
  | u + 1, c => by
    have ih := outS_cell A x d hd u
    have hsplit : ∀ e : Fin 2, e = 0 ∨ e = 1 := by decide
    show el (takeF u 1 c (takeF u 0 c (outS A u c) (k0_pay3 (chunk u 0 (fr 0 c) (outS A u (fr 0 c)))))
      (k0_pay3 (chunk u 1 (fr 1 c) (outS A u (fr 1 c))))) x = _
    simp only [cell]
    rw [← ih c, ← ih (fr d c)]
    rcases hsplit d with rfl | rfl
    · rw [take_not_mem u 1 c _ _ x (fun h => by have := h.2.symm.trans hd; exact absurd this (by decide))]
      split
      next h => exact take_mem u 0 c _ _ x h hd
      next h => exact take_not_mem u 0 c _ _ x (fun h' => h h'.1)
    · have h0 : el (takeF u 0 c (outS A u c) (k0_pay3 (chunk u 0 (fr 0 c) (outS A u (fr 0 c))))) x = el (outS A u c) x :=
        take_not_mem u 0 c _ _ x (fun h => by have := h.2.symm.trans hd; exact absurd this (by decide))
      split
      next h => rw [take_mem u 1 c _ _ x h hd, h0]
      next h => rw [take_not_mem u 1 c _ _ x (fun h' => h h'.1), h0]

/-- After the six steps every device's block is the sum of the four blocks they began with. -/
theorem outS_six (A : Dev nD → OutV Ideal) (c : Dev nD) (x : S2048x2048.Idx) :
    el (outS A 6 c) x = ∑ e : Dev nD, el (A e) x := by
  have hx0 : (x 0).val < 2048 := (x 0).isLt
  have hx1 : (x 1).val < 2048 := (x 1).isLt
  rw [outS_cell A x ⟨(x 1).val / 1024, by omega⟩ rfl 6 c]
  exact cell_six ⟨rowOf x, by unfold rowOf; omega⟩ _ _ c

end Elements

end Cert.KernelIdeal.Pf
-- ==== Proof.Product.lean ====
/-
# A device's partial product, in exact arithmetic

In exact arithmetic the block a device starts the exchange with is, element by element, the product of its rows of the
first argument with its rows of the second, summed over all of the device's 8192 columns: the sixteen grid points each
add the 512 columns of their blocks.
-/
module

public import proofs.«01_k».proof.Proof.Grid
public import proofs.«01_k».proof.Proof.Sum

@[expose] public section

noncomputable section

namespace Cert.KernelIdeal.Pf

open Cert.KernelIdeal Cert.KernelIdeal.Gen
open Idealize.ShloMosaic
open Idealize.ShloMosaic.TcCoe

variable (m : (ℓ : Loc nD τ sig) → Buf (Elt Ideal) ℓ)

/-- A device's first argument, as extended reals by row and column. -/
def argA (c : Dev nD) (i : Fin 2048) (k : Fin 8192) : EReal := (m ((c : Thread nD τ).loc main_arg0) : S2048x8192.Idx → EReal) (ix2 i k)

/-- A device's second argument, as extended reals by row and column. -/
def argB (c : Dev nD) (j : Fin 2048) (k : Fin 8192) : EReal := (m ((c : Thread nD τ).loc main_arg1) : S2048x8192.Idx → EReal) (ix2 j k)

/-- Column `k` of the block of point `t`. -/
def colAt (t : Fin 16) (k : Fin 512) : Fin 8192 := ⟨t.val * 512 + k.val, by omega⟩

/-- Where the input blocks of a point start, in blocks. -/
theorem index_in (t : Fin cfg0.N) : (win0_0.index t 0 = 0 ∧ win0_0.index t 1 = t.val) ∧ (win0_1.index t 0 = 0 ∧ win0_1.index t 1 = t.val) := by
  rcases fin_N0 t with rfl | rfl | rfl | rfl | rfl | rfl | rfl | rfl | rfl | rfl | rfl | rfl | rfl | rfl | rfl | rfl <;> decide

/-- The first argument's block at a point, element by element. -/
theorem blkA (c : Dev nD) (t : Fin cfg0.N) (ht : t.val < 16) (i : Fin 2048) (k : Fin 512) :
    (iblk m c 0 t : S2048x512.Idx → EReal) (ix2 i k) = argA m c i (colAt ⟨t.val, ht⟩ k) := by
  have hi := (index_in t).1
  unfold iblk argA
  rw [View.read_apply]
  show V m c main_arg0 _ = m (c.tc.loc main_arg0) _
  refine congrArg (m (c.tc.loc main_arg0)) ?_
  funext a
  apply Fin.ext
  match a with
  | ⟨0, _⟩ => show win0_0.index t 0 * 2048 + 1 * i.val = i.val; rw [hi.1]; omega
  | ⟨1, _⟩ => show win0_0.index t 1 * 512 + 1 * k.val = t.val * 512 + k.val; rw [hi.2]; omega

/-- The second argument's block at a point, element by element. -/
theorem blkB (c : Dev nD) (t : Fin cfg0.N) (ht : t.val < 16) (j : Fin 2048) (k : Fin 512) :
    (iblk m c 1 t : S2048x512.Idx → EReal) (ix2 j k) = argB m c j (colAt ⟨t.val, ht⟩ k) := by
  have hi := (index_in t).2
  unfold iblk argB
  rw [View.read_apply]
  show V m c main_arg1 _ = m (c.tc.loc main_arg1) _
  refine congrArg (m (c.tc.loc main_arg1)) ?_
  funext a
  apply Fin.ext
  match a with
  | ⟨0, _⟩ => show win0_1.index t 0 * 2048 + 1 * j.val = j.val; rw [hi.1]; omega
  | ⟨1, _⟩ => show win0_1.index t 1 * 512 + 1 * k.val = t.val * 512 + k.val; rw [hi.2]; omega

/-- The product of two blocks, element by element. -/
theorem pay1_apply (x y : Vec Ideal S2048x512 .f32) (i j : Fin 2048) :
    (k0_pay1 x y : S2048x2048.Idx → EReal) (ix2 i j) = ∑ k : Fin 512, (x (ix2 i k) * y (ix2 j k) : EReal) := by
  pointwise [k0_pay1]

/-- The product of two blocks added to what the output block holds, element by element. -/
theorem pay2_apply (x y : Vec Ideal S2048x512 .f32) (o : OutV Ideal) (i j : Fin 2048) :
    (k0_pay2 x y o : S2048x2048.Idx → EReal) (ix2 i j) = el o (ix2 i j) + ∑ k : Fin 512, (x (ix2 i k) * y (ix2 j k) : EReal) := by
  have h : (k0_pay2 x y o : S2048x2048.Idx → EReal) (ix2 i j) = el o (ix2 i j) + (k0_pay1 x y : S2048x2048.Idx → EReal) (ix2 i j) := by
    pointwise [k0_pay2]
  rw [h, pay1_apply]

/-- The product of a device's blocks at one point, at one element. -/
def tile (c : Dev nD) (i j : Fin 2048) (t : Fin 16) : EReal :=
  ∑ k : Fin 512, argA m c i (colAt t k) * argB m c j (colAt t k)

/-- The two blocks' product at a point is the point's part of the sum. -/
theorem tile_eq (c : Dev nD) (i j : Fin 2048) (t : Fin cfg0.N) (ht : t.val < 16) :
    (∑ k : Fin 512, ((id (iblk m c 0 t) : S2048x512.Idx → EReal) (ix2 i k) * (id (iblk m c 1 t) : S2048x512.Idx → EReal) (ix2 j k) : EReal))
      = tile m c i j ⟨t.val, ht⟩ :=
  Finset.sum_congr rfl fun k _ => congrArg₂ (fun a b : EReal => a * b) (blkA m c t ht i k) (blkB m c t ht j k)

/-- What the output block holds after point `n`: the points' parts so far, added up. -/
theorem acc_apply (c : Dev nD) (i j : Fin 2048) : ∀ (n : ℕ) (h : n < cfg0.N) (h' : n < 16),
    el (acc m c n h) (ix2 i j) = ∑ t : Fin (n + 1), tile m c i j ⟨t.val, by omega⟩
  | 0, h, h' => by
    rw [Fin.sum_univ_one]
    exact (pay1_apply _ _ i j).trans (tile_eq m c i j ⟨0, h⟩ h')
  | n + 1, h, h' => by
    rw [Fin.sum_univ_castSucc]
    refine (pay2_apply _ _ (acc m c n (Nat.lt_of_succ_lt h)) i j).trans ?_
    exact congrArg₂ (fun a b : EReal => a + b) (acc_apply c i j n (Nat.lt_of_succ_lt h) (by omega)) (tile_eq m c i j ⟨n + 1, h⟩ h')

/-- A device's partial product: the sum over its 8192 columns. -/
theorem part_apply (c : Dev nD) (i j : Fin 2048) :
    el (part m c) (ix2 i j) = ∑ k : Fin 8192, argA m c i k * argB m c j k :=
  (acc_apply m c i j 15 _ (by decide)).trans (Fin.sum_univ_tiles 16 512 rfl fun k : Fin 8192 => argA m c i k * argB m c j k).symm

/-- What every device ends with: the sum over the four devices of their partial products. -/
theorem out_apply (c : Dev nD) (i j : Fin 2048) :
    el (outS (part m) 6 c) (ix2 i j) = ∑ e : Dev nD, ∑ k : Fin 8192, argA m e i k * argB m e j k := by
  rw [outS_six]
  exact Finset.sum_congr rfl fun e _ => part_apply m e i j

end Cert.KernelIdeal.Pf
-- ==== Proof.Refer.lean ====
/-
# The reference's product, in exact arithmetic

In exact arithmetic the reference's result is, element by element, the product of the rows of its two arguments summed
over all 32768 columns. Cut in four runs of 8192 columns it is a sum over the devices.
-/
module

public import proofs.«01_k».proof.Proof.Gen.ReferenceIdeal
public import Idealize.ShloMosaic.Lib.Pointwise
public import Idealize.ShloMosaic.PureOps.Ideal.Laws

@[expose] public section

noncomputable section

namespace Cert.ReferenceIdeal.Pf

open Cert.ReferenceIdeal Cert.ReferenceIdeal.Gen
open Idealize.ShloMosaic
open Idealize.ShloMosaic.TcCoe

/-- Column `k` of the run of columns of device `c`. -/
def wideCol (c : Fin 4) (k : Fin 8192) : Fin 32768 := ⟨c.val * 8192 + k.val, by omega⟩

/-- The reference's result, as the value its run ends with. -/
def value (x y : FVec Ideal S2048x32768 .f32) : FVec Ideal S2048x2048 .f32 :=
  Host.dotGeneral dot_S2048x32768_S32768x2048_S2048x2048_1_0_0_1_n_n none x
    (transpose S32768x2048 [1, 0] y transposes_S2048x32768_S32768x2048_1_0)

/-- The reference's result at one element: the sum over all the columns. -/
theorem value_apply (x y : FVec Ideal S2048x32768 .f32) (i j : Fin 2048) :
    (value x y : S2048x2048.Idx → EReal) (ix2 i j) = ∑ k : Fin 32768, (x (ix2 i k) * y (ix2 j k) : EReal) := by
  pointwise [value]

/-- The same sum, device by device. -/
theorem value_devices (x y : FVec Ideal S2048x32768 .f32) (i j : Fin 2048) :
    (value x y : S2048x2048.Idx → EReal) (ix2 i j)
      = ∑ c : Fin 4, ∑ k : Fin 8192, (x (ix2 i (wideCol c k)) * y (ix2 j (wideCol c k)) : EReal) :=
  (value_apply x y i j).trans (Fin.sum_univ_tiles 4 8192 rfl fun k : Fin 32768 => (x (ix2 i k) * y (ix2 j k) : EReal))

end Cert.ReferenceIdeal.Pf
-- ==== Proof.lean ====
/-
# The proof of the certificate's claim

The kernel computes `dy · Wᵀ`, both arguments cut by columns over four devices: every device multiplies its own columns,
then the devices add their partial products up by a two-directional ring exchange. The runs of the kernel and of its
idealization are `Cert.Kernel.Pf.run` and `Cert.KernelIdeal.Pf.run`; what the exchange leaves in exact arithmetic is
`Cert.KernelIdeal.Pf.out_apply`; what the reference computes is `Cert.ReferenceIdeal.Pf.value_devices`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.KResult
public import proofs.«01_k».proof.Proof.Product
public import proofs.«01_k».proof.Proof.Refer
public import Idealize.ShloMosaic.Lib.Quiescent
public import Idealize.ShloMosaic.Lib.Layout
public import Idealize.ShloMosaic.Adequacy
public import Idealize.ShloMosaic.Init

@[expose] public section

noncomputable section

namespace Cert.Proof

open Idealize.ShloMosaic Idealize.ShloMosaic.TcCoe Idealize.SL.Sem

/-- The kernel runs, keeps its arguments and ends with every semaphore at zero. -/
theorem frameKernel : Cert.quiescent_Kernel := fun m g _ =>
  (θ_run Cert.Kernel.defs _ _).mono (fun _ h => ⟨fun c => (h.1 c).2, h.2⟩) (Cert.Kernel.Pf.run m g)

/-- The kernel's idealization runs, keeps its arguments and ends with every semaphore at zero. -/
theorem frameKernelIdeal : Cert.quiescent_KernelIdeal := fun m g _ =>
  (θ_run Cert.KernelIdeal.defs _ _).mono (fun _ h => ⟨fun c => (h.1 c).2, h.2⟩) (Cert.KernelIdeal.Pf.run m g)

/-- The reference runs, keeps its arguments and declares no semaphore. -/
theorem frameReferenceIdeal : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- An element of a device's columns of an argument is the whole argument's element in the device's run of columns. -/
theorem block_el (x : FVec Ideal Cert.ReferenceIdeal.S2048x32768 .f32)
    (h : Layout.Tiles ⟨2, ![2048, 8192]⟩ ⟨2, ![2048, 32768]⟩ 1 4) (c : Fin 4) (i : Fin 2048) (k : Fin 8192) :
    Layout.block ⟨2, ![2048, 8192]⟩ ⟨2, ![2048, 32768]⟩ 1 4 c x h (ix2 i k) = x (ix2 i (Cert.ReferenceIdeal.Pf.wideCol c k)) := by
  rw [Layout.block_apply]
  refine congrArg x ?_
  funext a
  match a with
  | ⟨0, _⟩ => rfl
  | ⟨1, _⟩ => rfl

/-- The kernel's idealization and the reference, run in exact arithmetic, end with the same result on every device. -/
theorem algebraicKernelIdeal : Cert.algebraic_KernelIdeal_ReferenceIdeal := by
  intro m g m' g' _ hagree
  let X : FVec Ideal Cert.ReferenceIdeal.S2048x32768 .f32 :=
    m' (((0 : Dev Cert.ReferenceIdeal.nD).tc : Thread Cert.ReferenceIdeal.nD Cert.ReferenceIdeal.τ).loc Cert.ReferenceIdeal.main_arg0)
  let Y : FVec Ideal Cert.ReferenceIdeal.S2048x32768 .f32 :=
    m' (((0 : Dev Cert.ReferenceIdeal.nD).tc : Thread Cert.ReferenceIdeal.nD Cert.ReferenceIdeal.τ).loc Cert.ReferenceIdeal.main_arg1)
  refine ⟨Cert.ReferenceIdeal.Pf.value X Y, ?_, ?_⟩
  · refine (θ_run Cert.KernelIdeal.defs _ _).mono (fun _ h c => ⟨(h.1 c).1.trans ?_, (h.1 c).2⟩)
      (Cert.KernelIdeal.Pf.run (F := Ideal) m g)
    funext j
    rw [eq_ix2 j]
    refine (Cert.KernelIdeal.Pf.out_apply m c (j 0) (j 1)).trans (Eq.trans ?_ (Cert.ReferenceIdeal.Pf.value_devices X Y (j 0) (j 1)).symm)
    refine Finset.sum_congr rfl fun e _ => Finset.sum_congr rfl fun k _ => ?_
    have ha : Cert.KernelIdeal.Pf.argA m e (j 0) k = X (ix2 (j 0) (Cert.ReferenceIdeal.Pf.wideCol e k)) :=
      (congrFun (hagree e).1 (ix2 (j 0) k)).trans (block_el X _ e (j 0) k)
    have hb : Cert.KernelIdeal.Pf.argB m e (j 1) k = Y (ix2 (j 1) (Cert.ReferenceIdeal.Pf.wideCol e k)) :=
      (congrFun (hagree e).2 (ix2 (j 1) k)).trans (block_el Y _ e (j 1) k)
    rw [ha, hb]
  · exact (θ_run Cert.ReferenceIdeal.defs _ _).mono (fun _ h => h 0) (Cert.ReferenceIdeal.Value.run (F := Ideal) m' g')

/-- Every claim of the certificate, after the witnesses of what the printed programs state. -/
theorem claim : Cert.Claim :=
  ⟨Cert.Kernel.Gen.facts, Cert.KernelIdeal.Gen.facts, Cert.ReferenceIdeal.Gen.facts,
    frameKernel, frameKernelIdeal, frameReferenceIdeal, trivial, algebraicKernelIdeal⟩

end Cert.Proof

end
